-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2 = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S320000x128 : Shape := ⟨2, ![320000, 128]⟩
abbrev S320000 : Shape := ⟨1, ![320000]⟩
abbrev S512x256 : Shape := ⟨2, ![512, 256]⟩
abbrev S512x128 : Shape := ⟨2, ![512, 128]⟩
abbrev S512 : Shape := ⟨1, ![512]⟩
abbrev S_ : Shape := ⟨0, ![]⟩
abbrev S319999 : Shape := ⟨1, ![319999]⟩

class Facts : Prop where
  bcast_S_S320000 : S_.BroadcastsInDim S320000 (![] : Fin 0 → Fin S320000.rank)
  slices_S320000_S319999_0 : S320000.Slices ![0] S319999
  slices_S320000_S319999_1 : S320000.Slices ![1] S319999

variable [Facts]

def fn {F : FTy → Type} [FloatOps F] (main_arg0 : FVec F S320000x128 .f32) (main_arg1 : IVec S320000 32) (main_arg2 : FVec F S512x256 .f32) (main_arg3 : FVec F S512x128 .f32) (main_arg4 : FVec F S512 .f32) (main_arg5 : FVec F S512 .f32) : IVec S320000 1 × IVec S319999 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 128#32
  let main_v2 : IVec S320000 32 := broadcastInDim S320000 ![] bcast_S_S320000 main_c_0
  let main_v3 : IVec S320000 1 := cmpi .slt main_arg1 main_v2
  let main_v4 : IVec S320000 1 := andi main_v1 main_v3
  let main_v5 : IVec S319999 32 := (extractStridedSlice S319999 ![0] · slices_S320000_S319999_0) main_arg1
  let main_v6 : IVec S319999 32 := (extractStridedSlice S319999 ![1] · slices_S320000_S319999_1) main_arg1
  let main_v7 : IVec S319999 1 := cmpi .sle main_v5 main_v6
  (main_v4, main_v7)
-- ==== Kernel.lean ====
abbrev S320000x128 : Shape := ⟨2, ![320000, 128]⟩
abbrev S320000 : Shape := ⟨1, ![320000]⟩
abbrev S512x256 : Shape := ⟨2, ![512, 256]⟩
abbrev S512x128 : Shape := ⟨2, ![512, 128]⟩
abbrev S512 : Shape := ⟨1, ![512]⟩
abbrev S20x1x16000 : Shape := ⟨3, ![20, 1, 16000]⟩
abbrev S20 : Shape := ⟨1, ![20]⟩
abbrev S1x512 : Shape := ⟨2, ![1, 512]⟩
abbrev S128x256 : Shape := ⟨2, ![128, 256]⟩
abbrev S16000x128 : Shape := ⟨2, ![16000, 128]⟩
abbrev S1x1x16000 : Shape := ⟨3, ![1, 1, 16000]⟩
abbrev S128x128 : Shape := ⟨2, ![128, 128]⟩
abbrev S128x1 : Shape := ⟨2, ![128, 1]⟩
abbrev S128x512 : Shape := ⟨2, ![128, 512]⟩
abbrev S1x16000 : Shape := ⟨2, ![1, 16000]⟩
abbrev S1 : Shape := ⟨1, ![1]⟩
abbrev S16x1 : Shape := ⟨2, ![16, 1]⟩
abbrev S16x16000 : Shape := ⟨2, ![16, 16000]⟩
abbrev S16x128 : Shape := ⟨2, ![16, 128]⟩
abbrev S16 : Shape := ⟨1, ![16]⟩

abbrev nBuf : Space → Nat
  | .hbm => 10
  | .vmem => 15
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S20x1x16000, .i32⟩
  | .hbm, ⟨7, _⟩ => ⟨S512, .f32⟩
  | .hbm, ⟨8, _⟩ => ⟨S1x512, .f32⟩
  | .hbm, ⟨9, _⟩ => ⟨S128x256, .f32⟩
  | .local _ .vmem, ⟨0, _⟩ => ⟨S16000x128, .f32⟩
  | .local _ .vmem, ⟨1, _⟩ => ⟨S16000x128, .f32⟩
  | .local _ .vmem, ⟨2, _⟩ => ⟨S1x1x16000, .i32⟩
  | .local _ .vmem, ⟨3, _⟩ => ⟨S1x1x16000, .i32⟩
  | .local _ .vmem, ⟨4, _⟩ => ⟨S512x256, .f32⟩
  | .local _ .vmem, ⟨5, _⟩ => ⟨S512x128, .f32⟩
  | .local _ .vmem, ⟨6, _⟩ => ⟨S1x512, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x256, .f32⟩
  | .local _ .vmem, ⟨12, _⟩ => ⟨S128x1, .f32⟩
  | .local _ .vmem, ⟨13, _⟩ => ⟨S128x1, .f32⟩
  | .local _ .vmem, ⟨14, _⟩ => ⟨S128x128, .f32⟩
  | .local _ .smem, ⟨0, _⟩ => ⟨S20, .i32⟩
  | .local _ .smem, ⟨1, _⟩ => ⟨S20, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![3, 20], ![false, false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v11 : Index := Scalar.indexCast arg1
  ![v11.toNat]
@[reducible] def k0_t1_loop (v12 : BitVec 32) (v31 : BitVec 32) : Scf.Loop 32 :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c16_i32_13 : BitVec 32 := 16#32
  let c0_i32_16 : BitVec 32 := 0#32
  let v38 : BitVec 1 := Scalar.cmpi .sgt c16_i32_13 c0_i32_16
  let v39 : BitVec 32 := Scalar.extui v38
  let c0_i32_17 : BitVec 32 := 0#32
  let v40 : BitVec 1 := Scalar.cmpi .slt c16_i32_13 c0_i32_17
  let v41 : BitVec 32 := Scalar.extui v40
  let v42 : BitVec 32 := Scalar.subi v39 v41
  let v43 : BitVec 1 := Scalar.cmpi .ne v37 v42
  let v44 : BitVec 32 := Scalar.remsi v31 c16_i32_13
  let c0_i32_18 : BitVec 32 := 0#32
  let v45 : BitVec 1 := Scalar.cmpi .ne v44 c0_i32_18
  let v46 : BitVec 1 := Scalar.andi v43 v45
  let v32 : BitVec 32 := Scalar.divsi v31 c16_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 32 := Scalar.addi v48 c1_i32_20
  let v50 : BitVec 32 := Scalar.subi v49 v29
  let c1_i32_22 : BitVec 32 := 1#32
  let v52 : BitVec 32 := Scalar.divsi v50 c1_i32_22
  let v53 : BitVec 32 := Scalar.muli v52 c1_i32_22
  let v54 : BitVec 32 := Scalar.addi v29 v53
  let c1_i32_23 : BitVec 32 := 1#32
  ⟨v29, v54, c1_i32_23⟩

def k0_off2 (v12 : BitVec 32) (v31 : BitVec 32) (k0_t1 : Fin (k0_t1_loop v12 v31).trips) : Fin 2 → Nat :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c1_i32_23 : BitVec 32 := 1#32
  let arg17 : BitVec 32 := Scf.iv v29 c1_i32_23 k0_t1
  let c16_i32_26 : BitVec 32 := 16#32
  let v58 : BitVec 32 := Scalar.muli arg17 c16_i32_26
  let v65 : Index := Scalar.indexCast v58
  let c0_27 : Index := 0#32
  ![v65.toNat, 0]
def k0_off3 (v12 : BitVec 32) (v31 : BitVec 32) (k0_t1 : Fin (k0_t1_loop v12 v31).trips) : Fin 2 → Nat :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c1_i32_23 : BitVec 32 := 1#32
  let arg17 : BitVec 32 := Scf.iv v29 c1_i32_23 k0_t1
  let c16_i32_26 : BitVec 32 := 16#32
  let v58 : BitVec 32 := Scalar.muli arg17 c16_i32_26
  let v72 : Index := Scalar.indexCast v58
  let c0_30 : Index := 0#32
  ![v72.toNat, 0]
@[reducible] def k0_t2_loop (v12 : BitVec 32) (v31 : BitVec 32) : Scf.Loop 32 :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c16_i32_13 : BitVec 32 := 16#32
  let c0_i32_16 : BitVec 32 := 0#32
  let v38 : BitVec 1 := Scalar.cmpi .sgt c16_i32_13 c0_i32_16
  let v39 : BitVec 32 := Scalar.extui v38
  let c0_i32_17 : BitVec 32 := 0#32
  let v40 : BitVec 1 := Scalar.cmpi .slt c16_i32_13 c0_i32_17
  let v41 : BitVec 32 := Scalar.extui v40
  let v42 : BitVec 32 := Scalar.subi v39 v41
  let v43 : BitVec 1 := Scalar.cmpi .ne v37 v42
  let v44 : BitVec 32 := Scalar.remsi v31 c16_i32_13
  let c0_i32_18 : BitVec 32 := 0#32
  let v45 : BitVec 1 := Scalar.cmpi .ne v44 c0_i32_18
  let v46 : BitVec 1 := Scalar.andi v43 v45
  let v32 : BitVec 32 := Scalar.divsi v31 c16_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 32 := Scalar.addi v48 c1_i32_20
  let v50 : BitVec 32 := Scalar.subi v49 v29
  let c1_i32_22 : BitVec 32 := 1#32
  let v52 : BitVec 32 := Scalar.divsi v50 c1_i32_22
  let v53 : BitVec 32 := Scalar.muli v52 c1_i32_22
  let v54 : BitVec 32 := Scalar.addi v29 v53
  let v51 : BitVec 32 := Scalar.addi v29 v50
  let c1_i32_24 : BitVec 32 := 1#32
  ⟨v54, v51, c1_i32_24⟩
def k0_off4 (v12 : BitVec 32) (v31 : BitVec 32) (k0_t2 : Fin (k0_t2_loop v12 v31).trips) : Fin 2 → Nat :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c16_i32_13 : BitVec 32 := 16#32
  let c0_i32_16 : BitVec 32 := 0#32
  let v38 : BitVec 1 := Scalar.cmpi .sgt c16_i32_13 c0_i32_16
  let v39 : BitVec 32 := Scalar.extui v38
  let c0_i32_17 : BitVec 32 := 0#32
  let v40 : BitVec 1 := Scalar.cmpi .slt c16_i32_13 c0_i32_17
  let v41 : BitVec 32 := Scalar.extui v40
  let v42 : BitVec 32 := Scalar.subi v39 v41
  let v43 : BitVec 1 := Scalar.cmpi .ne v37 v42
  let v44 : BitVec 32 := Scalar.remsi v31 c16_i32_13
  let c0_i32_18 : BitVec 32 := 0#32
  let v45 : BitVec 1 := Scalar.cmpi .ne v44 c0_i32_18
  let v46 : BitVec 1 := Scalar.andi v43 v45
  let v32 : BitVec 32 := Scalar.divsi v31 c16_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 32 := Scalar.addi v48 c1_i32_20
  let v50 : BitVec 32 := Scalar.subi v49 v29
  let c1_i32_22 : BitVec 32 := 1#32
  let v52 : BitVec 32 := Scalar.divsi v50 c1_i32_22
  let v53 : BitVec 32 := Scalar.muli v52 c1_i32_22
  let v54 : BitVec 32 := Scalar.addi v29 v53
  let c1_i32_24 : BitVec 32 := 1#32
  let arg17 : BitVec 32 := Scf.iv v54 c1_i32_24 k0_t2
  let c16_i32_26 : BitVec 32 := 16#32
  let v58 : BitVec 32 := Scalar.muli arg17 c16_i32_26
  let v65 : Index := Scalar.indexCast v58
  let c0_27 : Index := 0#32
  ![v65.toNat, 0]
def k0_off5 (v12 : BitVec 32) (v31 : BitVec 32) (k0_t2 : Fin (k0_t2_loop v12 v31).trips) : Fin 2 → Nat :=
  let c0_i32_8 : BitVec 32 := 0#32
  let v14 : BitVec 1 := Scalar.cmpi .sgt v12 c0_i32_8
  let v15 : BitVec 32 := Scalar.extui v14
  let c0_i32_9 : BitVec 32 := 0#32
  let v16 : BitVec 1 := Scalar.cmpi .slt v12 c0_i32_9
  let v17 : BitVec 32 := Scalar.extui v16
  let v18 : BitVec 32 := Scalar.subi v15 v17
  let c16_i32 : BitVec 32 := 16#32
  let c0_i32_10 : BitVec 32 := 0#32
  let v19 : BitVec 1 := Scalar.cmpi .sgt c16_i32 c0_i32_10
  let v20 : BitVec 32 := Scalar.extui v19
  let c0_i32_11 : BitVec 32 := 0#32
  let v21 : BitVec 1 := Scalar.cmpi .slt c16_i32 c0_i32_11
  let v22 : BitVec 32 := Scalar.extui v21
  let v23 : BitVec 32 := Scalar.subi v20 v22
  let v24 : BitVec 1 := Scalar.cmpi .ne v18 v23
  let v25 : BitVec 32 := Scalar.remsi v12 c16_i32
  let c0_i32_12 : BitVec 32 := 0#32
  let v26 : BitVec 1 := Scalar.cmpi .ne v25 c0_i32_12
  let v27 : BitVec 1 := Scalar.andi v24 v26
  let v13 : BitVec 32 := Scalar.divsi v12 c16_i32
  let c1_i32 : BitVec 32 := 1#32
  let v28 : BitVec 32 := Scalar.subi v13 c1_i32
  let v29 : BitVec 32 := Scalar.select v27 v28 v13
  let c0_i32_14 : BitVec 32 := 0#32
  let v33 : BitVec 1 := Scalar.cmpi .sgt v31 c0_i32_14
  let v34 : BitVec 32 := Scalar.extui v33
  let c0_i32_15 : BitVec 32 := 0#32
  let v35 : BitVec 1 := Scalar.cmpi .slt v31 c0_i32_15
  let v36 : BitVec 32 := Scalar.extui v35
  let v37 : BitVec 32 := Scalar.subi v34 v36
  let c16_i32_13 : BitVec 32 := 16#32
  let c0_i32_16 : BitVec 32 := 0#32
  let v38 : BitVec 1 := Scalar.cmpi .sgt c16_i32_13 c0_i32_16
  let v39 : BitVec 32 := Scalar.extui v38
  let c0_i32_17 : BitVec 32 := 0#32
  let v40 : BitVec 1 := Scalar.cmpi .slt c16_i32_13 c0_i32_17
  let v41 : BitVec 32 := Scalar.extui v40
  let v42 : BitVec 32 := Scalar.subi v39 v41
  let v43 : BitVec 1 := Scalar.cmpi .ne v37 v42
  let v44 : BitVec 32 := Scalar.remsi v31 c16_i32_13
  let c0_i32_18 : BitVec 32 := 0#32
  let v45 : BitVec 1 := Scalar.cmpi .ne v44 c0_i32_18
  let v46 : BitVec 1 := Scalar.andi v43 v45
  let v32 : BitVec 32 := Scalar.divsi v31 c16_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 32 := Scalar.addi v48 c1_i32_20
  let v50 : BitVec 32 := Scalar.subi v49 v29
  let c1_i32_22 : BitVec 32 := 1#32
  let v52 : BitVec 32 := Scalar.divsi v50 c1_i32_22
  let v53 : BitVec 32 := Scalar.muli v52 c1_i32_22
  let v54 : BitVec 32 := Scalar.addi v29 v53
  let c1_i32_24 : BitVec 32 := 1#32
  let arg17 : BitVec 32 := Scf.iv v54 c1_i32_24 k0_t2
  let c16_i32_26 : BitVec 32 := 16#32
  let v58 : BitVec 32 := Scalar.muli arg17 c16_i32_26
  let v72 : Index := Scalar.indexCast v58
  let c0_30 : Index := 0#32
  ![v72.toNat, 0]

def k0_chk1 (v12 : BitVec 32) (v31 : BitVec 32) : Prop :=
  ((k0_t1_loop v12 v31).OK) ∧
  (∀ k0_t1 : Fin (k0_t1_loop v12 v31).trips, ∀ a, (k0_off2 v12 v31 k0_t1) a + S16x128.size a ≤ S128x128.size a) ∧
  (∀ k0_t1 : Fin (k0_t1_loop v12 v31).trips, ∀ a, (k0_off3 v12 v31 k0_t1) a + S16x1.size a ≤ S128x1.size a) ∧
  ((k0_t2_loop v12 v31).OK) ∧
  (∀ k0_t2 : Fin (k0_t2_loop v12 v31).trips, ∀ a, (k0_off4 v12 v31 k0_t2) a + S16x128.size a ≤ S128x128.size a) ∧
  (∀ k0_t2 : Fin (k0_t2_loop v12 v31).trips, ∀ a, (k0_off5 v12 v31 k0_t2) a + S16x1.size a ≤ S128x1.size a)
theorem k0_t1_ok : ∀ (v12 : BitVec 32) (v31 : BitVec 32) (k0_hw1 : k0_chk1 v12 v31), (k0_t1_loop v12 v31).OK := fun v12 v31 k0_hw1 => k0_hw1.1
theorem k0_off2_inb : ∀ (v12 : BitVec 32) (v31 : BitVec 32) (k0_hw1 : k0_chk1 v12 v31) (k0_t1 : Fin (k0_t1_loop v12 v31).trips), ∀ a, (k0_off2 v12 v31 k0_t1) a + S16x128.size a ≤ S128x128.size a := fun v12 v31 k0_hw1 k0_t1 => k0_hw1.2.1 k0_t1
theorem k0_off3_inb : ∀ (v12 : BitVec 32) (v31 : BitVec 32) (k0_hw1 : k0_chk1 v12 v31) (k0_t1 : Fin (k0_t1_loop v12 v31).trips), ∀ a, (k0_off3 v12 v31 k0_t1) a + S16x1.size a ≤ S128x1.size a := fun v12 v31 k0_hw1 k0_t1 => k0_hw1.2.2.1 k0_t1
theorem k0_t2_ok : ∀ (v12 : BitVec 32) (v31 : BitVec 32) (k0_hw1 : k0_chk1 v12 v31), (k0_t2_loop v12 v31).OK := fun v12 v31 k0_hw1 => k0_hw1.2.2.2.1
theorem k0_off4_inb : ∀ (v12 : BitVec 32) (v31 : BitVec 32) (k0_hw1 : k0_chk1 v12 v31) (k0_t2 : Fin (k0_t2_loop v12 v31).trips), ∀ a, (k0_off4 v12 v31 k0_t2) a + S16x128.size a ≤ S128x128.size a := fun v12 v31 k0_hw1 k0_t2 => k0_hw1.2.2.2.2.1 k0_t2
theorem k0_off5_inb : ∀ (v12 : BitVec 32) (v31 : BitVec 32) (k0_hw1 : k0_chk1 v12 v31) (k0_t2 : Fin (k0_t2_loop v12 v31).trips), ∀ a, (k0_off5 v12 v31 k0_t2) a + S16x1.size a ≤ S128x1.size a := fun v12 v31 k0_hw1 k0_t2 => k0_hw1.2.2.2.2.2 k0_t2

def k0_cond3 (i : grid0.Coords) : BitVec 1 :=
  let arg1 : BitVec 32 := BitVec.ofNat 32 (i 1).val
  let c19_i32 : BitVec 32 := 19#32
  let v55 : BitVec 1 := Scalar.cmpi .eq arg1 c19_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F] [Named F]
def κ : String → Option EReal := fun
  | "neg" => some ⊥
  | _ => none
-- ==== ReferenceIdeal.lean ====
abbrev S320000x128 : Shape := ⟨2, ![320000, 128]⟩
abbrev S320000 : Shape := ⟨1, ![320000]⟩
abbrev S512x256 : Shape := ⟨2, ![512, 256]⟩
abbrev S512x128 : Shape := ⟨2, ![512, 128]⟩
abbrev S512 : Shape := ⟨1, ![512]⟩
abbrev S_ : Shape := ⟨0, ![]⟩
abbrev S128x128 : Shape := ⟨2, ![128, 128]⟩
abbrev S128x256 : Shape := ⟨2, ![128, 256]⟩
abbrev S1x320000 : Shape := ⟨2, ![1, 320000]⟩
abbrev S128 : Shape := ⟨1, ![128]⟩
abbrev S128x1 : Shape := ⟨2, ![128, 1]⟩
abbrev S128x320000 : Shape := ⟨2, ![128, 320000]⟩
abbrev S256x512 : Shape := ⟨2, ![256, 512]⟩
abbrev S128x512 : Shape := ⟨2, ![128, 512]⟩
abbrev S1x512 : Shape := ⟨2, ![1, 512]⟩
abbrev S320000x1 : Shape := ⟨2, ![320000, 1]⟩

abbrev nBuf : Space → Nat
  | .hbm => 321
  | .vmem => 0
  | .smem => 0
  | _ => 0

abbrev hbmTy0_0 (i : Nat) : BufTy := match i % 128 with
  | 0 => ⟨S320000x128, .f32⟩
  | 1 => ⟨S320000, .i32⟩
  | 2 => ⟨S512x256, .f32⟩
  | 3 => ⟨S512x128, .f32⟩
  | 4 => ⟨S512, .f32⟩
  | 5 => ⟨S512, .f32⟩
  | 6 => ⟨S_, .f32⟩
  | 7 => ⟨S128x128, .f32⟩
  | 8 => ⟨S_, .f32⟩
  | 9 => ⟨S128x128, .f32⟩
  | 10 => ⟨S_, .f32⟩
  | 11 => ⟨S128x256, .f32⟩
  | 12 => ⟨S1x320000, .i32⟩
  | 13 => ⟨S128, .i32⟩
  | 14 => ⟨S128x1, .i32⟩
  | 15 => ⟨S128x320000, .i32⟩
  | 16 => ⟨S128x320000, .i32⟩
  | 17 => ⟨S128x320000, .i1⟩
  | 18 => ⟨S256x512, .f32⟩
  | 19 => ⟨S128x512, .f32⟩
  | 20 => ⟨S128x512, .f32⟩
  | 21 => ⟨S128x512, .f32⟩
  | 22 => ⟨S128x512, .f32⟩
  | 23 => ⟨S1x512, .f32⟩
  | 24 => ⟨S128x512, .f32⟩
  | 25 => ⟨S128x512, .f32⟩
  | 26 => ⟨S1x512, .f32⟩
  | 27 => ⟨S128x512, .f32⟩
  | 28 => ⟨S128x512, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S128x128, .f32⟩
  | 42 => ⟨S128x128, .f32⟩
  | 43 => ⟨S_, .f32⟩
  | 44 => ⟨S128x128, .f32⟩
  | 45 => ⟨S128x128, .f32⟩
  | 46 => ⟨S_, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S128x128, .f32⟩
  | 59 => ⟨S128x128, .f32⟩
  | 60 => ⟨S128x128, .f32⟩
  | 61 => ⟨S128x128, .f32⟩
  | 62 => ⟨S128x128, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x128, .f32⟩
  | 72 => ⟨S320000x128, .f32⟩
  | 73 => ⟨S_, .f32⟩
  | 74 => ⟨S320000, .f32⟩
  | 75 => ⟨S1x320000, .f32⟩
  | 76 => ⟨S_, .f32⟩
  | 77 => ⟨S_, .f32⟩
  | 78 => ⟨S128x320000, .f32⟩
  | 79 => ⟨S128x320000, .f32⟩
  | 80 => ⟨S128x320000, .f32⟩
  | 81 => ⟨S_, .f32⟩
  | 82 => ⟨S128, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000, .f32⟩
  | 92 => ⟨S320000, .f32⟩
  | 93 => ⟨S320000, .f32⟩
  | 94 => ⟨S_, .f32⟩
  | 95 => ⟨S128, .f32⟩
  | 96 => ⟨S320000x1, .i32⟩
  | 97 => ⟨S128, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000, .f32⟩
  | 107 => ⟨S_, .f32⟩
  | 108 => ⟨S320000, .f32⟩
  | 109 => ⟨S320000, .f32⟩
  | 110 => ⟨S320000, .f32⟩
  | 111 => ⟨S320000x1, .f32⟩
  | 112 => ⟨S320000x128, .f32⟩
  | 113 => ⟨S320000x128, .f32⟩
  | 114 => ⟨S_, .f32⟩
  | 115 => ⟨S128x128, .f32⟩
  | 116 => ⟨S320000x1, .i32⟩
  | 117 => ⟨S128x128, .f32⟩
  | 118 => ⟨S128x256, .f32⟩
  | 119 => ⟨S256x512, .f32⟩
  | 120 => ⟨S128x512, .f32⟩
  | 121 => ⟨S128x512, .f32⟩
  | 122 => ⟨S128x512, .f32⟩
  | 123 => ⟨S128x512, .f32⟩
  | 124 => ⟨S1x512, .f32⟩
  | 125 => ⟨S128x512, .f32⟩
  | 126 => ⟨S128x512, .f32⟩
  | 127 => ⟨S1x512, .f32⟩
  | _ => ⟨S320000x128, .f32⟩

abbrev hbmTy0_1 (i : Nat) : BufTy := match i % 128 with
  | 0 => ⟨S128x512, .f32⟩
  | 1 => ⟨S128x512, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S_, .f32⟩
  | 9 => ⟨S128x128, .f32⟩
  | 10 => ⟨S128x128, .f32⟩
  | 11 => ⟨S_, .f32⟩
  | 12 => ⟨S128x128, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .f32⟩
  | 19 => ⟨S_, .f32⟩
  | 20 => ⟨S128x128, .f32⟩
  | 21 => ⟨S128x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S128x128, .f32⟩
  | 32 => ⟨S128x128, .f32⟩
  | 33 => ⟨S128x128, .f32⟩
  | 34 => ⟨S128x128, .f32⟩
  | 35 => ⟨S128x128, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .f32⟩
  | 45 => ⟨S320000x128, .f32⟩
  | 46 => ⟨S_, .f32⟩
  | 47 => ⟨S320000, .f32⟩
  | 48 => ⟨S1x320000, .f32⟩
  | 49 => ⟨S_, .f32⟩
  | 50 => ⟨S_, .f32⟩
  | 51 => ⟨S128x320000, .f32⟩
  | 52 => ⟨S128x320000, .f32⟩
  | 53 => ⟨S128x320000, .f32⟩
  | 54 => ⟨S_, .f32⟩
  | 55 => ⟨S128, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000, .f32⟩
  | 65 => ⟨S320000, .f32⟩
  | 66 => ⟨S320000, .f32⟩
  | 67 => ⟨S_, .f32⟩
  | 68 => ⟨S128, .f32⟩
  | 69 => ⟨S320000x1, .i32⟩
  | 70 => ⟨S128, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000, .f32⟩
  | 80 => ⟨S_, .f32⟩
  | 81 => ⟨S320000, .f32⟩
  | 82 => ⟨S320000, .f32⟩
  | 83 => ⟨S320000, .f32⟩
  | 84 => ⟨S320000x1, .f32⟩
  | 85 => ⟨S320000x128, .f32⟩
  | 86 => ⟨S320000x128, .f32⟩
  | 87 => ⟨S_, .f32⟩
  | 88 => ⟨S128x128, .f32⟩
  | 89 => ⟨S320000x1, .i32⟩
  | 90 => ⟨S128x128, .f32⟩
  | 91 => ⟨S128x256, .f32⟩
  | 92 => ⟨S256x512, .f32⟩
  | 93 => ⟨S128x512, .f32⟩
  | 94 => ⟨S128x512, .f32⟩
  | 95 => ⟨S128x512, .f32⟩
  | 96 => ⟨S128x512, .f32⟩
  | 97 => ⟨S1x512, .f32⟩
  | 98 => ⟨S128x512, .f32⟩
  | 99 => ⟨S128x512, .f32⟩
  | 100 => ⟨S1x512, .f32⟩
  | 101 => ⟨S128x512, .f32⟩
  | 102 => ⟨S128x512, .f32⟩
  | 103 => ⟨S128x128, .f32⟩
  | 104 => ⟨S128x128, .f32⟩
  | 105 => ⟨S128x128, .f32⟩
  | 106 => ⟨S128x128, .f32⟩
  | 107 => ⟨S128x128, .f32⟩
  | 108 => ⟨S128x128, .f32⟩
  | 109 => ⟨S_, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S128x128, .f32⟩
  | 116 => ⟨S128x128, .f32⟩
  | 117 => ⟨S_, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S320000x128, .f32⟩

abbrev hbmTy0_2 (i : Nat) : BufTy := match i % 128 with
  | 0 => ⟨S128x128, .f32⟩
  | 1 => ⟨S_, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x128, .f32⟩
  | 18 => ⟨S320000x128, .f32⟩
  | 19 => ⟨S_, .f32⟩
  | 20 => ⟨S320000, .f32⟩
  | 21 => ⟨S1x320000, .f32⟩
  | 22 => ⟨S_, .f32⟩
  | 23 => ⟨S_, .f32⟩
  | 24 => ⟨S128x320000, .f32⟩
  | 25 => ⟨S128x320000, .f32⟩
  | 26 => ⟨S128x320000, .f32⟩
  | 27 => ⟨S_, .f32⟩
  | 28 => ⟨S128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S320000, .f32⟩
  | 39 => ⟨S320000, .f32⟩
  | 40 => ⟨S_, .f32⟩
  | 41 => ⟨S128, .f32⟩
  | 42 => ⟨S320000x1, .i32⟩
  | 43 => ⟨S128, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S_, .f32⟩
  | 54 => ⟨S320000, .f32⟩
  | 55 => ⟨S320000, .f32⟩
  | 56 => ⟨S320000, .f32⟩
  | 57 => ⟨S320000x1, .f32⟩
  | 58 => ⟨S320000x128, .f32⟩
  | 59 => ⟨S320000x128, .f32⟩
  | 60 => ⟨S_, .f32⟩
  | 61 => ⟨S128x128, .f32⟩
  | 62 => ⟨S320000x1, .i32⟩
  | 63 => ⟨S128x128, .f32⟩
  | 64 => ⟨S128x256, .f32⟩
  | _ => ⟨S320000x128, .f32⟩

abbrev hbmTy (i : Nat) : BufTy := match i / 128 with
  | 0 => hbmTy0_0 i
  | 1 => hbmTy0_1 i
  | 2 => hbmTy0_2 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_19 : Ref sig .tc := ⟨.hbm, 136, rfl⟩
abbrev main_v106 : Ref sig .tc := ⟨.hbm, 137, rfl⟩
abbrev main_v107 : Ref sig .tc := ⟨.hbm, 138, rfl⟩
abbrev main_cst_20 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_cst_22 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_23 : Ref sig .tc := ⟨.hbm, 153, rfl⟩
abbrev main_v119 : Ref sig .tc := ⟨.hbm, 154, rfl⟩
abbrev main_v120 : Ref sig .tc := ⟨.hbm, 155, rfl⟩
abbrev main_cst_24 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_25 : Ref sig .tc := ⟨.hbm, 164, rfl⟩
abbrev main_v128 : Ref sig .tc := ⟨.hbm, 165, rfl⟩
abbrev main_v129 : Ref sig .tc := ⟨.hbm, 166, rfl⟩
abbrev main_c_26 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_27 : Ref sig .tc := ⟨.hbm, 174, rfl⟩
abbrev main_v136 : Ref sig .tc := ⟨.hbm, 175, rfl⟩
abbrev main_v137 : Ref sig .tc := ⟨.hbm, 176, rfl⟩
abbrev main_cst_28 : Ref sig .tc := ⟨.hbm, 177, rfl⟩
abbrev main_call1_v0 : Ref sig .tc := ⟨.hbm, 178, rfl⟩
abbrev main_call1_v1 : Ref sig .tc := ⟨.hbm, 179, rfl⟩
abbrev main_call1_v2 : Ref sig .tc := ⟨.hbm, 180, rfl⟩
abbrev main_v138 : Ref sig .tc := ⟨.hbm, 181, rfl⟩
abbrev main_cst_29 : Ref sig .tc := ⟨.hbm, 182, rfl⟩
abbrev main_v139 : Ref sig .tc := ⟨.hbm, 183, rfl⟩
abbrev main_c_30 : Ref sig .tc := ⟨.hbm, 184, rfl⟩
abbrev main_v140 : Ref sig .tc := ⟨.hbm, 185, rfl⟩
abbrev main_v141 : Ref sig .tc := ⟨.hbm, 186, rfl⟩
abbrev main_c_31 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_32 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_c_33 : Ref sig .tc := ⟨.hbm, 199, rfl⟩
abbrev main_v152 : Ref sig .tc := ⟨.hbm, 200, rfl⟩
abbrev main_v153 : Ref sig .tc := ⟨.hbm, 201, rfl⟩
abbrev main_c_34 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_35 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_36 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_37 : Ref sig .tc := ⟨.hbm, 237, rfl⟩
abbrev main_v186 : Ref sig .tc := ⟨.hbm, 238, rfl⟩
abbrev main_v187 : Ref sig .tc := ⟨.hbm, 239, rfl⟩
abbrev main_cst_38 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_39 : Ref sig .tc := ⟨.hbm, 245, rfl⟩
abbrev main_v192 : Ref sig .tc := ⟨.hbm, 246, rfl⟩
abbrev main_v193 : Ref sig .tc := ⟨.hbm, 247, rfl⟩
abbrev main_cst_40 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_41 : Ref sig .tc := ⟨.hbm, 254, rfl⟩
abbrev main_v199 : Ref sig .tc := ⟨.hbm, 255, rfl⟩
abbrev main_v200 : Ref sig .tc := ⟨.hbm, 256, rfl⟩
abbrev main_cst_42 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_c_43 : Ref sig .tc := ⟨.hbm, 265, rfl⟩
abbrev main_v208 : Ref sig .tc := ⟨.hbm, 266, rfl⟩
abbrev main_v209 : Ref sig .tc := ⟨.hbm, 267, rfl⟩
abbrev main_c_44 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_cst_45 : Ref sig .tc := ⟨.hbm, 275, rfl⟩
abbrev main_v216 : Ref sig .tc := ⟨.hbm, 276, rfl⟩
abbrev main_v217 : Ref sig .tc := ⟨.hbm, 277, rfl⟩
abbrev main_cst_46 : Ref sig .tc := ⟨.hbm, 278, rfl⟩
abbrev main_call2_v0 : Ref sig .tc := ⟨.hbm, 279, rfl⟩
abbrev main_call2_v1 : Ref sig .tc := ⟨.hbm, 280, rfl⟩
abbrev main_call2_v2 : Ref sig .tc := ⟨.hbm, 281, rfl⟩
abbrev main_v218 : Ref sig .tc := ⟨.hbm, 282, rfl⟩
abbrev main_cst_47 : Ref sig .tc := ⟨.hbm, 283, rfl⟩
abbrev main_v219 : Ref sig .tc := ⟨.hbm, 284, rfl⟩
abbrev main_c_48 : Ref sig .tc := ⟨.hbm, 285, rfl⟩
abbrev main_v220 : Ref sig .tc := ⟨.hbm, 286, rfl⟩
abbrev main_v221 : Ref sig .tc := ⟨.hbm, 287, rfl⟩
abbrev main_c_49 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_cst_50 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_c_51 : Ref sig .tc := ⟨.hbm, 300, rfl⟩
abbrev main_v232 : Ref sig .tc := ⟨.hbm, 301, rfl⟩
abbrev main_v233 : Ref sig .tc := ⟨.hbm, 302, rfl⟩
abbrev main_c_52 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_cst_53 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_cst_54 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩

abbrev nD : Nat := 1
abbrev τ : Topo := Topo.v7x

variable {F : FTy → Type} [FloatOps F]
-- ==== Proof.Own.Words.lean ====
/- The integer arithmetic the kernel does on its two table words: the windows of sixteen segments that a chunk's
   loop visits. The words are the first and the last segment id of the chunk; both lie in [0, 128). -/
module

public import Idealize.ShloMosaic.PureOps
public import Idealize.ShloMosaic.Lib.Scf

@[expose] public section

namespace Cert.Words

open Idealize.ShloMosaic

/-- The window a segment id lies in, as the kernel computes it: signed division by sixteen, rounded down. -/
def win (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 16#32 0#32)) (Scalar.extui (Scalar.cmpi .slt 16#32 0#32))))
      (Scalar.cmpi .ne (Scalar.remsi v 16#32) 0#32))
    (Scalar.subi (Scalar.divsi v 16#32) 1#32) (Scalar.divsi v 16#32)

/-- How many windows lie from `a` to `b`, both counted, as a word. -/
def span (a b : BitVec 32) : BitVec 32 := Scalar.subi (Scalar.addi b 1#32) a

/-- The loop over the windows `a` to `b`. -/
@[reducible] def loop1 (a b : BitVec 32) : Scf.Loop 32 :=
  ⟨a, Scalar.addi a (Scalar.muli (Scalar.divsi (span a b) 1#32) 1#32), 1#32⟩

/-- The remainder loop behind it. -/
@[reducible] def loop2 (a b : BitVec 32) : Scf.Loop 32 :=
  ⟨Scalar.addi a (Scalar.muli (Scalar.divsi (span a b) 1#32) 1#32), Scalar.addi a (span a b), 1#32⟩

/-- The first row of the window visited at trip `k`. -/
def row (a : BitVec 32) (k : Nat) : BitVec 32 := Scalar.muli (Scf.iv a 1#32 k) 16#32

/-- The window of a segment number. -/
theorem win_fin : ∀ n : Fin 128, win (BitVec.ofNat 32 n.val) = BitVec.ofNat 32 (n.val / 16) := by decide

/-- A segment id in range lies in the window of its sixteenth part. -/
theorem win_eq {v : BitVec 32} (h : v.toNat < 128) : win v = BitVec.ofNat 32 (v.toNat / 16) := by
  have := win_fin ⟨v.toNat, h⟩
  simpa using this

/-- The window loop between two window numbers is well formed and visits every window between them. -/
theorem loop1_fin : ∀ a b : Fin 8, a ≤ b →
    (loop1 (BitVec.ofNat 32 a.val) (BitVec.ofNat 32 b.val)).OK
      ∧ (loop1 (BitVec.ofNat 32 a.val) (BitVec.ofNat 32 b.val)).trips = b.val + 1 - a.val := by decide

/-- The remainder loop between two window numbers makes no trip. -/
theorem loop2_fin : ∀ a b : Fin 8, a ≤ b →
    (loop2 (BitVec.ofNat 32 a.val) (BitVec.ofNat 32 b.val)).OK
      ∧ (loop2 (BitVec.ofNat 32 a.val) (BitVec.ofNat 32 b.val)).trips = 0 := by decide

/-- The row at which a trip's window starts. -/
theorem row_fin : ∀ a k : Fin 8, a.val + k.val < 8 →
    (row (BitVec.ofNat 32 a.val) k.val).toNat = (a.val + k.val) * 16 := by decide

/-- The window loop is well formed and makes one trip for every window from the first word's to the second's. -/
theorem loop1_spec {v w : BitVec 32} (hw : w.toNat < 128) (hvw : v.toNat ≤ w.toNat) :
    (loop1 (win v) (win w)).OK ∧ (loop1 (win v) (win w)).trips = w.toNat / 16 + 1 - v.toNat / 16 := by
  rw [win_eq hw, win_eq (lt_of_le_of_lt hvw hw)]
  exact loop1_fin ⟨v.toNat / 16, by omega⟩ ⟨w.toNat / 16, by omega⟩ (by
    show v.toNat / 16 ≤ w.toNat / 16
    omega)

/-- The remainder loop is well formed and makes no trip. -/
theorem loop2_spec {v w : BitVec 32} (hw : w.toNat < 128) (hvw : v.toNat ≤ w.toNat) :
    (loop2 (win v) (win w)).OK ∧ (loop2 (win v) (win w)).trips = 0 := by
  rw [win_eq hw, win_eq (lt_of_le_of_lt hvw hw)]
  exact loop2_fin ⟨v.toNat / 16, by omega⟩ ⟨w.toNat / 16, by omega⟩ (by
    show v.toNat / 16 ≤ w.toNat / 16
    omega)

/-- The rows of the window visited at trip `k` begin at sixteen times the window's number. -/
theorem row_spec {v : BitVec 32} {k : Nat} (h : v.toNat / 16 + k < 8) :
    (row (win v) k).toNat = (v.toNat / 16 + k) * 16 := by
  have hv : v.toNat < 128 := by omega
  rw [win_eq hv]
  exact row_fin ⟨v.toNat / 16, by omega⟩ ⟨k, by omega⟩ h

/-- Of two bits, the conjunction is set exactly if both are. -/
theorem andi_eq_one (p q : BitVec 1) : IntOp.andi p q = 1#1 ↔ p = 1#1 ∧ q = 1#1 := by
  revert p q; decide

/-- A truth value as a bit is set exactly if it is true. -/
theorem ofBool_eq_one (p : Bool) : BitVec.ofBool p = 1#1 ↔ p = true := by cases p <;> decide

/-- A word at least 0 and below 128, read signed, is below 128 read unsigned. -/
theorem toNat_lt {v : BitVec 32} (h : IntOp.andi (IntOp.cmpi .sge v 0#32) (IntOp.cmpi .slt v 128#32) = 1#1) :
    v.toNat < 128 := by
  rw [andi_eq_one] at h
  simp only [IntOp.cmpi, ofBool_eq_one, BitVec.sle_eq_decide, BitVec.slt_eq_decide,
    decide_eq_true_eq, BitVec.toInt_eq_toNat_cond, BitVec.toNat_ofNat, Nat.reducePow, Nat.reduceMod] at h
  omega

/-- Two words below 128 that compare signed as at most, compare so unsigned. -/
theorem toNat_le {v w : BitVec 32} (hv : v.toNat < 128) (hw : w.toNat < 128) (h : IntOp.cmpi .sle v w = 1#1) :
    v.toNat ≤ w.toNat := by
  simp only [IntOp.cmpi, ofBool_eq_one, BitVec.sle_eq_decide, BitVec.slt_eq_decide,
    decide_eq_true_eq, BitVec.toInt_eq_toNat_cond, BitVec.toNat_ofNat, Nat.reducePow, Nat.reduceMod] at h
  omega

end Cert.Words
-- ==== Proof.Own.IdealWords.lean ====
/- The words the idealized kernel reads off its two prefetched tables, and the side condition its body assumes of them,
   from the precondition: the tables hold the first and the last segment id of every chunk of 16000 edges. -/
module

public import proofs.«01_k».proof.Defs
public import proofs.«01_k».proof.Proof.Gen.KernelIdeal.Frame.Runs
public import proofs.«01_k».proof.Proof.Gen.Pre_sorted_ids
public import proofs.«01_k».proof.Proof.Own.Words
public import Idealize.ShloMosaic.Lib.StableHlo.Run
public import Idealize.ShloMosaic.Lib.Claim
public import Idealize.ShloMosaic.Lib.ValueIdxCore

@[expose] public section

noncomputable section

open Idealize.ShloMosaic Idealize.ShloMosaic.TcCoe Idealize.SL.Sem

namespace Cert.KernelIdeal.Hand

open Cert.KernelIdeal Cert.KernelIdeal.Gen

section chk

/-- The side condition of the body holds of any two words in order, the greater below 128. -/
theorem chk_of {v w : BitVec 32} (hw : w.toNat < 128) (hvw : v.toNat ≤ w.toNat) : k0_chk1 v w := by
  have h1 := Words.loop1_spec hw hvw
  have h2 := Words.loop2_spec hw hvw
  have hr : ∀ k : Fin (Words.loop1 (Words.win v) (Words.win w)).trips,
      (Words.row (Words.win v) k.val).toNat + 16 ≤ 128 := fun k => by
    have hk := k.isLt.trans_eq h1.2
    rw [Words.row_spec (by omega)]
    omega
  refine ⟨h1.1, fun k a => ?_, fun k a => ?_, h2.1, fun k => ?_, fun k => ?_⟩
  · fin_cases a
    · exact hr k
    · show 0 + 128 ≤ 128
      omega
  · fin_cases a
    · exact hr k
    · show 0 + 1 ≤ 1
      omega
  · exact absurd k.isLt (by
      have : (k0_t2_loop v w).trips = 0 := h2.2
      omega)
  · exact absurd k.isLt (by
      have : (k0_t2_loop v w).trips = 0 := h2.2
      omega)

end chk

variable {F : FTy → Type} [FloatOps F] [Named F]
variable (m : (ℓ : Loc nD τ sig) → Buf (Elt F) ℓ)

/-- The segment ids, as the program was launched with them. -/
abbrev ids : S320000.Idx → BitVec 32 := m (((0 : Dev nD) : Thread nD τ).loc main_arg1)

/-- The precondition at this program's launch memory, for either reading of the floats. -/
def Sorted : Prop :=
  (Cert.Pre_sorted_ids.fn (F := F) (m (((0 : Dev nD) : Thread nD τ).loc main_arg0)) (ids m) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))).1 = (fun _ => 1#1)
  ∧ (Cert.Pre_sorted_ids.fn (F := F) (m (((0 : Dev nD) : Thread nD τ).loc main_arg0)) (ids m) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))).2 = (fun _ => 1#1)

/-- The edge numbered `n` as an index of the id array. -/
abbrev edge (n : ℕ) (h : n < 320000) : S320000.Idx := ValueIdx.ix1 ⟨n, h⟩

variable {m}

/-- Every segment id is below 128. -/
theorem Sorted.lt (h : Sorted m) (y : S320000.Idx) : (ids m y).toNat < 128 := by
  have e := congrFun h.1 y
  simp only [Cert.Pre_sorted_ids.fn, constantI, broadcastInDim, cmpi, andi] at e
  exact Words.toNat_lt e

/-- Neighbouring segment ids are in order. -/
theorem Sorted.succ (h : Sorted m) (n : ℕ) (hn : n + 1 < 320000) :
    (ids m (edge n (by omega))).toNat ≤ (ids m (edge (n + 1) hn)).toNat := by
  have e := congrFun h.2 (ValueIdx.ix1 (⟨n, by omega⟩ : Fin 319999))
  simp only [Cert.Pre_sorted_ids.fn, cmpi] at e
  refine Words.toNat_le (h.lt _) (h.lt _) ?_
  convert e using 2
  · refine congrArg _ (funext fun a => Fin.ext ?_)
    fin_cases a
    show n = 0 + n
    omega
  · refine congrArg _ (funext fun a => Fin.ext ?_)
    fin_cases a
    show n + 1 = 1 + n
    omega

/-- The segment ids ascend. -/
theorem Sorted.mono (h : Sorted m) (n k : ℕ) (hk : n + k < 320000) :
    (ids m (edge n (by omega))).toNat ≤ (ids m (edge (n + k) hk)).toNat := by
  induction k with
  | zero => exact le_rfl
  | succ k ih => exact (ih (by omega)).trans (h.succ (n + k) hk)

/-- Of two edges the earlier has the smaller id, or the same. -/
theorem Sorted.le (h : Sorted m) {n k : ℕ} (hnk : n ≤ k) (hk : k < 320000) :
    (ids m (edge n (by omega))).toNat ≤ (ids m (edge k hk)).toNat := by
  obtain ⟨d, rfl⟩ := Nat.exists_eq_add_of_le hnk
  exact h.mono n d hk

variable (m)

/-- The first table holds the first segment id of every chunk. -/
theorem tbl0 (x : S20.Idx) : (tbl m 0 : S20.Idx → BitVec 32) x
    = ids m (edge (16000 * (x 0).val) (by have : (x 0).val < 20 := (x 0).isLt; omega)) := by
  show (V m 0 main_v1 : S20.Idx → BitVec 32) x = _
  have e : (V m 0 main_v1 : S20.Idx → BitVec 32) = Host.slice S20 ![0] ![16000] (ids m) slicesBy_S320000_S20_0s16000 := by
    unfold_abbrev_sides; after_results
  rw [e]
  refine congrArg (ids m) (funext fun a => Fin.ext ?_)
  fin_cases a
  show 0 + 16000 * (x 0).val = 16000 * (x 0).val
  omega

/-- The second table holds the last segment id of every chunk. -/
theorem tbl1 (x : S20.Idx) : (tbl m 1 : S20.Idx → BitVec 32) x
    = ids m (edge (16000 * (x 0).val + 15999) (by have : (x 0).val < 20 := (x 0).isLt; omega)) := by
  show (V m 0 main_v2 : S20.Idx → BitVec 32) x = _
  have e : (V m 0 main_v2 : S20.Idx → BitVec 32) = Host.slice S20 ![15999] ![16000] (ids m) slicesBy_S320000_S20_15999s16000 := by
    unfold_abbrev_sides; after_results
  rw [e]
  refine congrArg (ids m) (funext fun a => Fin.ext ?_)
  fin_cases a
  show 15999 + 16000 * (x 0).val = 16000 * (x 0).val + 15999
  omega

/-- The pipeline asks nothing of the tables. -/
theorem ok : Ok m := trivial

variable {m}

section hyps
attribute [local irreducible] k0_chk1

/-- The precondition gives the side condition the body assumes, at every point of the grid. -/
theorem hyps (h : Sorted m) : Hyps m (ok m) := Hyps.of fun c t => by
  unfold Hyps.p0
  show k0_chk1 ((tbl m 0 : S20.Idx → BitVec 32) ?x) ((tbl m 1 : S20.Idx → BitVec 32) ?x)
  rw [tbl0, tbl1]
  exact chk_of (h.lt _) (h.le (by omega) _)

end hyps

end Cert.KernelIdeal.Hand

end
-- ==== Proof.Own.Frames.lean ====
/- The frames of the three programs, and the naming of the constant that the idealized kernel reads as minus infinity. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Own.BitsWords
public import proofs.«01_k».proof.Proof.Own.IdealWords
public import Idealize.ShloMosaic.Lib.Quiescent

@[expose] public section

noncomputable section

open Idealize.ShloMosaic Idealize.ShloMosaic.TcCoe Idealize.SL.Sem

namespace Cert.Proof.Frames

/-- The kernel as printed, on sorted segment ids in range, runs to the end and leaves its arguments unchanged. -/
theorem kernel : Cert.quiescent_Kernel := fun m ρ h =>
  Cert.Kernel.Gen.frame m ρ (Cert.Kernel.Hand.ok m) (Cert.Kernel.Hand.hyps (h 0))

/-- The idealized kernel, on sorted segment ids in range, runs to the end and leaves its arguments unchanged. -/
theorem kernelIdeal : Cert.quiescent_KernelIdeal := fun m ρ h =>
  Cert.KernelIdeal.Gen.frame m ρ (Cert.KernelIdeal.Hand.ok m) (Cert.KernelIdeal.Hand.hyps (h 0))

/-- The reference runs to the end and leaves its arguments unchanged. -/
theorem reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The one constant the idealized kernel names: `-1e30` is read as minus infinity. -/
theorem preserves : Cert.preserves_Kernel_KernelIdeal :=
  IdealRules.named_const.statement Cert.KernelIdeal.κ "neg" .f32 0xF149F2CA#32 ⊥ rfl

end Cert.Proof.Frames

end
-- ==== Proof.Own.RefDefs.lean ====
/- The reference, written as three rounds of the same few functions of whole arrays. -/
module

public import proofs.«01_k».proof.Proof.Gen.ReferenceIdeal.Run
public import Idealize.ShloMosaic.PureOps.Ideal

@[expose] public section

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.Value

variable (x0 : S320000x128.Idx → EReal) (x1 : S320000.Idx → BitVec 32) (x2 : S512x256.Idx → EReal) (x3 : S512x128.Idx → EReal)
  (x4 x5 : S512.Idx → EReal)

/-- Zeros, as the state before the first round. -/
def zeros : S128x128.Idx → EReal := broadcastInDim S128x128 ![] bcast_S_S128x128 (constant (F := Ideal) S_ .f32 0x00000000#32)
/-- The query and readout before the first round. -/
def zeros2 : S128x256.Idx → EReal := broadcastInDim S128x256 ![] bcast_S_S128x256 (constant (F := Ideal) S_ .f32 0x00000000#32)
/-- The segment sums before any edge is added. -/
def zeros1 : S128.Idx → EReal := broadcastInDim S128 ![] bcast_S_S128 (constant (F := Ideal) S_ .f32 0x00000000#32)

/-- The segment ids as a column of indices, and the same with a negative id moved up by the number of segments. -/
def column : S320000x1.Idx → BitVec 32 := broadcastInDim S320000x1 ![0] bcast_S320000_S320000x1_0 x1
/-- The segment ids as indices, negative ones counted from the end. -/
def wrapped : S320000x1.Idx → BitVec 32 :=
  column (select (cmpi .slt x1 (broadcastInDim S320000 ![] bcast_S_S320000 (constantI S_ 32 0#32)))
    (addi x1 (broadcastInDim S320000 ![] bcast_S_S320000 (constantI S_ 32 128#32))) x1)

/-- Which edge belongs to which segment. -/
def member : S128x320000.Idx → BitVec 1 :=
  cmpi .eq (broadcastInDim S128x320000 ![0, 1] bcast_S1x320000_S128x320000_0_1 (broadcastInDim S1x320000 ![1] bcast_S320000_S1x320000_1 x1))
    (broadcastInDim S128x320000 ![0, 1] bcast_S128x1_S128x320000_0_1 (broadcastInDim S128x1 ![0] bcast_S128_S128x1_0 (iotaInDim S128 32 0)))

/-- A bias vector under every row. -/
def under (b : S512.Idx → EReal) : S128x512.Idx → EReal :=
  broadcastInDim S128x512 ![0, 1] bcast_S1x512_S128x512_0_1 (broadcastInDim S1x512 ![1] bcast_S512_S1x512_1 b)

/-- The four gates before their activations. -/
def gates (qs : S128x256.Idx → EReal) (h : S128x128.Idx → EReal) : S128x512.Idx → EReal :=
  addf (F := Ideal) (φ := .f32) (addf (F := Ideal) (φ := .f32) (addf (F := Ideal) (φ := .f32)
    (Host.dotGeneral (F := Ideal) (φ₁ := .f32) (φ₂ := .f32) dot_S128x256_S256x512_S128x512_1_0_0_1_n_n none qs (transpose S256x512 [1, 0] x2 transposes_S512x256_S256x512_1_0))
    (Host.dotGeneral (F := Ideal) (φ₁ := .f32) (φ₂ := .f32) dot_S128x128_S128x512_S128x512_1_0_0_1_n_n none h (transpose S128x512 [1, 0] x3 transposes_S512x128_S128x512_1_0)))
    (under x4)) (under x5)

/-- The logistic function, as the quotient. -/
def sigm (x : S128x128.Idx → EReal) : S128x128.Idx → EReal :=
  Host.divf (F := Ideal) (φ := .f32) (broadcastInDim S128x128 ![] bcast_S_S128x128 (constant (F := Ideal) S_ .f32 0x3F800000#32))
    (addf (F := Ideal) (φ := .f32) (broadcastInDim S128x128 ![] bcast_S_S128x128 (constant (F := Ideal) S_ .f32 0x3F800000#32))
      (Host.exp (F := Ideal) (φ := .f32) (Host.negf (F := Ideal) (φ := .f32) x)))

/-- The cell state after a round. -/
def cell (g : S128x512.Idx → EReal) (c : S128x128.Idx → EReal) : S128x128.Idx → EReal :=
  addf (F := Ideal) (φ := .f32) (mulf (F := Ideal) (φ := .f32) (sigm (extractStridedSlice S128x128 ![0, 128] g slices_S128x512_S128x128_0_128)) c)
    (mulf (F := Ideal) (φ := .f32) (sigm (extractStridedSlice S128x128 ![0, 0] g slices_S128x512_S128x128_0_0))
      (Host.tanh (F := Ideal) (φ := .f32) (extractStridedSlice S128x128 ![0, 256] g slices_S128x512_S128x128_0_256)))

/-- The hidden state after a round. -/
def hidden (g : S128x512.Idx → EReal) (c' : S128x128.Idx → EReal) : S128x128.Idx → EReal :=
  mulf (F := Ideal) (φ := .f32) (sigm (extractStridedSlice S128x128 ![0, 384] g slices_S128x512_S128x128_0_384)) (Host.tanh (F := Ideal) (φ := .f32) c')

/-- The score of every edge under the hidden state of its segment. -/
def scores (h : S128x128.Idx → EReal) : S320000.Idx → EReal :=
  Host.reduceAdd (F := Ideal) (φ := .f32) (mulf (F := Ideal) (φ := .f32) x0 (Host.gather gather_S128x128_S320000x1_S320000x128_1_0_n_n_0_1_1128 h (wrapped x1)))
    (constant (F := Ideal) S_ .f32 0x00000000#32) reducesTo_S320000x128_S320000_d1 h_S_

/-- The maximal score of every segment. -/
def maxima (e : S320000.Idx → EReal) : S128.Idx → EReal :=
  Host.reduce (FloatOps.maximumf (F := Ideal) (φ := .f32))
    (select (member x1) (broadcastInDim S128x320000 ![0, 1] bcast_S1x320000_S128x320000_0_1 (broadcastInDim S1x320000 ![1] bcast_S320000_S1x320000_1 e))
      (broadcastInDim S128x320000 ![] bcast_S_S128x320000 (id (constant (F := Ideal) S_ .f32 0xFF800000#32))))
    (constant (F := Ideal) S_ .f32 0xFF800000#32) reducesTo_S128x320000_S128_d1 h_S_

/-- A per-segment value at every edge. -/
def spread (v : S128.Idx → EReal) : S320000.Idx → EReal := Host.gather gather_S128_S320000x1_S320000_n_0_n_n_0_1_1 v (wrapped x1)

/-- The exponential of every score below its segment's maximum. -/
def weights (e : S320000.Idx → EReal) : S320000.Idx → EReal :=
  Host.exp (F := Ideal) (φ := .f32) (subf (F := Ideal) (φ := .f32) e (spread x1 (maxima x1 e)))

/-- Their sum over every segment. -/
def totals (w : S320000.Idx → EReal) : S128.Idx → EReal :=
  Host.scatterAdd (F := Ideal) (φ := .f32) scatter_S128_S320000x1_S320000_n_0_0_1 zeros1 (column x1) w

/-- The share of every edge in its segment. -/
def shares (w : S320000.Idx → EReal) : S320000.Idx → EReal :=
  Host.divf (F := Ideal) (φ := .f32) w (addf (F := Ideal) (φ := .f32) (spread x1 (totals x1 w))
    (broadcastInDim S320000 ![] bcast_S_S320000 (constant (F := Ideal) S_ .f32 0x322BCC77#32)))

/-- The weighted sum of the features over every segment. -/
def pooled (a : S320000.Idx → EReal) : S128x128.Idx → EReal :=
  Host.scatterAdd (F := Ideal) (φ := .f32) scatter_S128x128_S320000x1_S320000x128_1_0_0_1 zeros (column x1)
    (mulf (F := Ideal) (φ := .f32) x0 (broadcastInDim S320000x128 ![0, 1] bcast_S320000x1_S320000x128_0_1 (broadcastInDim S320000x1 ![0] bcast_S320000_S320000x1_0 a)))

/-- The hidden state and the readout side by side. -/
def beside (h r : S128x128.Idx → EReal) : S128x256.Idx → EReal :=
  concatenate S128x256 1 [⟨S128x128, h⟩, ⟨S128x128, r⟩] concatenates_S128x128_S128x128_S128x256_d1

/-- What a round hands on beside its states. -/
def found (h : S128x128.Idx → EReal) : S128x256.Idx → EReal :=
  beside h (pooled x0 x1 (shares x1 (weights x1 (scores x0 x1 h))))

variable (V0 : Valuation τ sig (Elt Ideal))

/-- The gates of the first round. -/
theorem g1 : res_main_v19 V0 = gates (V0 (Proc.devRef .tc main_arg2)) (V0 (Proc.devRef .tc main_arg3)) (V0 (Proc.devRef .tc main_arg4)) (V0 (Proc.devRef .tc main_arg5)) zeros2 zeros := rfl
/-- The cell of the first round. -/
theorem c1 : res_main_v45 V0 = cell (res_main_v19 V0) zeros := rfl
/-- The hidden state of the first round. -/
theorem h1 : res_main_v47 V0 = hidden (res_main_v19 V0) (res_main_v45 V0) := rfl
/-- The scores of the first round. -/
theorem e1 : res_main_v56 V0 = scores (V0 (Proc.devRef .tc main_arg0)) (V0 (Proc.devRef .tc main_arg1)) (res_main_v47 V0) := rfl
/-- The weights of the first round. -/
theorem w1 : res_main_v68 V0 = weights (V0 (Proc.devRef .tc main_arg1)) (res_main_v56 V0) := rfl
/-- The gates of the second round. -/
theorem g2 : res_main_v99 V0 = gates (V0 (Proc.devRef .tc main_arg2)) (V0 (Proc.devRef .tc main_arg3)) (V0 (Proc.devRef .tc main_arg4)) (V0 (Proc.devRef .tc main_arg5)) (beside (res_main_v47 V0) (pooled (V0 (Proc.devRef .tc main_arg0)) (V0 (Proc.devRef .tc main_arg1)) (shares (V0 (Proc.devRef .tc main_arg1)) (res_main_v68 V0)))) (res_main_v47 V0) := rfl
/-- The cell of the second round. -/
theorem c2 : res_main_v125 V0 = cell (res_main_v99 V0) (res_main_v45 V0) := rfl
/-- The hidden state of the second round. -/
theorem h2 : res_main_v127 V0 = hidden (res_main_v99 V0) (res_main_v125 V0) := rfl
/-- The scores of the second round. -/
theorem e2 : res_main_v136 V0 = scores (V0 (Proc.devRef .tc main_arg0)) (V0 (Proc.devRef .tc main_arg1)) (res_main_v127 V0) := rfl
/-- The weights of the second round. -/
theorem w2 : res_main_v148 V0 = weights (V0 (Proc.devRef .tc main_arg1)) (res_main_v136 V0) := rfl
/-- The gates of the third round. -/
theorem g3 : res_main_v179 V0 = gates (V0 (Proc.devRef .tc main_arg2)) (V0 (Proc.devRef .tc main_arg3)) (V0 (Proc.devRef .tc main_arg4)) (V0 (Proc.devRef .tc main_arg5)) (beside (res_main_v127 V0) (pooled (V0 (Proc.devRef .tc main_arg0)) (V0 (Proc.devRef .tc main_arg1)) (shares (V0 (Proc.devRef .tc main_arg1)) (res_main_v148 V0)))) (res_main_v127 V0) := rfl
/-- The hidden state of the third round. -/
theorem h3 : res_main_v207 V0 = hidden (res_main_v179 V0) (cell (res_main_v179 V0) (res_main_v125 V0)) := rfl
/-- The scores of the third round. -/
theorem e3 : res_main_v216 V0 = scores (V0 (Proc.devRef .tc main_arg0)) (V0 (Proc.devRef .tc main_arg1)) (res_main_v207 V0) := rfl
/-- The weights of the third round. -/
theorem w3 : res_main_v228 V0 = weights (V0 (Proc.devRef .tc main_arg1)) (res_main_v216 V0) := rfl

end Cert.ReferenceIdeal.Hand

end
-- ==== Proof.Own.Softmax.lean ====
/- The running softmax over the extended reals: a maximum, a sum of exponentials below it and a weighted sum, extended by
   a further set of terms, are the maximum and the sums over the union. No term is assumed finite. -/
module

public import Idealize.ShloMosaic.PureOps.Ideal
public import Idealize.ShloMosaic.PureOps.Ideal.Laws

@[expose] public section

noncomputable section

open Idealize.ShloMosaic

namespace Cert.Softmax

/-- The exponential of a difference, as both programs compute it. -/
def ex (x y : EReal) : EReal := Ideal.exp (x - y)

/-- The exponential of minus infinity is zero. -/
theorem exp_bot : Ideal.exp ⊥ = 0 := rfl

/-- The exponential is never negative. -/
theorem exp_nonneg (x : EReal) : 0 ≤ Ideal.exp x := by
  induction x with
  | bot => exact le_of_eq rfl
  | top => exact le_top
  | coe r => exact EReal.coe_nonneg.2 (Real.exp_pos r).le

/-- A weight is not negative. -/
theorem ex_nonneg (x y : EReal) : 0 ≤ ex x y := exp_nonneg _

/-- The exponential of a difference of values in order is finite. -/
theorem ex_ne_top {x y : EReal} (h : x ≤ y) : ex x y ≠ ⊤ := by
  unfold ex
  induction y with
  | bot =>
    obtain rfl := le_bot_iff.1 h
    simp [exp_bot]
  | top =>
    have : x - (⊤ : EReal) = ⊥ := EReal.sub_top x
    rw [this]; simp [exp_bot]
  | coe r =>
    induction x with
    | bot => simp [exp_bot]
    | top => exact absurd (top_le_iff.1 h) (EReal.coe_ne_top r)
    | coe s =>
      rw [← EReal.coe_sub]
      exact EReal.coe_ne_top _

/-- Changing the maximum that is subtracted multiplies by the exponential of the change. -/
theorem rescale {e m m' : EReal} (h : e ≤ m) (h' : m ≤ m') : ex e m * ex m m' = ex e m' := by
  unfold ex
  induction m' with
  | bot =>
    obtain rfl := le_bot_iff.1 h'
    obtain rfl := le_bot_iff.1 h
    simp [exp_bot]
  | top =>
    rw [EReal.sub_top, EReal.sub_top]; simp [exp_bot]
  | coe t =>
    induction m with
    | bot =>
      obtain rfl := le_bot_iff.1 h
      simp [exp_bot]
    | top => exact absurd (top_le_iff.1 h') (EReal.coe_ne_top t)
    | coe s =>
      induction e with
      | bot => simp [exp_bot]
      | top => exact absurd (top_le_iff.1 h) (EReal.coe_ne_top s)
      | coe r =>
        rw [← EReal.coe_sub, ← EReal.coe_sub, ← EReal.coe_sub]
        show ((Real.exp (r - s) : ℝ) : EReal) * ((Real.exp (s - t) : ℝ) : EReal) = ((Real.exp (r - t) : ℝ) : EReal)
        rw [← EReal.coe_mul, ← Real.exp_add]
        congr 2
        ring

/-- A finite factor that is not negative distributes over a sum. -/
theorem sum_mul {E : Type*} (S : Finset E) (a : E → EReal) {c : EReal} (h0 : 0 ≤ c) (h1 : c ≠ ⊤) :
    (∑ n ∈ S, a n) * c = ∑ n ∈ S, a n * c := by
  classical
  induction S using Finset.induction_on with
  | empty => simp
  | insert n S hn ih =>
    rw [Finset.sum_insert hn, Finset.sum_insert hn, EReal.right_distrib_of_nonneg_of_ne_top h0 h1, ih]

variable {E : Type*} [DecidableEq E]

/-- The maximum of the scores of a set of terms. -/
def top (S : Finset E) (e : E → EReal) : EReal := S.sup e

/-- The sum of the exponentials of the scores below their maximum. -/
def mass (S : Finset E) (e : E → EReal) : EReal := ∑ n ∈ S, ex (e n) (top S e)

/-- The sum of values weighted by those exponentials. -/
def blend (S : Finset E) (e f : E → EReal) : EReal := ∑ n ∈ S, ex (e n) (top S e) * f n

/-- The maximum over a union. -/
theorem top_union (S T : Finset E) (e : E → EReal) : max (top S e) (top T e) = top (S ∪ T) e :=
  (Finset.sup_union).symm

/-- A score is at most the maximum. -/
theorem le_top_of_mem {S : Finset E} (e : E → EReal) {n : E} (h : n ∈ S) : e n ≤ top S e := Finset.le_sup h

/-- More edges have a larger maximum. -/
theorem top_mono {S T : Finset E} (e : E → EReal) (h : S ⊆ T) : top S e ≤ top T e := Finset.sup_mono h

/-- The sum of exponentials over a union, from that over the first part. -/
theorem mass_union {S T : Finset E} (h : Disjoint S T) (e : E → EReal) :
    mass S e * ex (top S e) (top (S ∪ T) e) + ∑ n ∈ T, ex (e n) (top (S ∪ T) e) = mass (S ∪ T) e := by
  have hm := top_mono e (Finset.subset_union_left (s₁ := S) (s₂ := T))
  unfold mass
  rw [sum_mul S _ (ex_nonneg _ _) (ex_ne_top hm), Finset.sum_union h]
  congr 1
  exact Finset.sum_congr rfl fun n hn => rescale (le_top_of_mem e hn) hm

/-- The weighted sum over a union, from that over the first part. -/
theorem blend_union {S T : Finset E} (h : Disjoint S T) (e f : E → EReal) :
    blend S e f * ex (top S e) (top (S ∪ T) e) + ∑ n ∈ T, ex (e n) (top (S ∪ T) e) * f n = blend (S ∪ T) e f := by
  have hm := top_mono e (Finset.subset_union_left (s₁ := S) (s₂ := T))
  unfold blend
  rw [sum_mul S _ (ex_nonneg _ _) (ex_ne_top hm), Finset.sum_union h]
  congr 1
  refine Finset.sum_congr rfl fun n hn => ?_
  rw [mul_right_comm, rescale (le_top_of_mem e hn) hm]

/-- A mass is not negative. -/
theorem mass_nonneg (S : Finset E) (e : E → EReal) : 0 ≤ mass S e := Finset.sum_nonneg fun _ _ => ex_nonneg _ _

/-- The inverse of a positive value is finite and not negative. -/
theorem inv_pos {d : EReal} (h : 0 < d) : 0 ≤ d⁻¹ ∧ d⁻¹ ≠ ⊤ := by
  induction d with
  | bot => exact absurd h (by simp)
  | top => simp
  | coe r =>
    have hr : 0 < r := EReal.coe_pos.1 h
    rw [← EReal.coe_inv]
    exact ⟨EReal.coe_nonneg.2 (inv_nonneg.2 hr.le), EReal.coe_ne_top _⟩

/-- Dividing every weight by a positive value divides the weighted sum by it. -/
theorem sum_div {E : Type*} (S : Finset E) (w f : E → EReal) {d : EReal} (h : 0 < d) :
    ∑ n ∈ S, f n * Ideal.div (w n) d = Ideal.div (∑ n ∈ S, w n * f n) d := by
  have hd : ∀ x, Ideal.div x d = x * d⁻¹ := fun x => by unfold Ideal.div; rw [if_neg h.ne']
  rw [hd, sum_mul S _ (inv_pos h).1 (inv_pos h).2]
  refine Finset.sum_congr rfl fun n _ => ?_
  rw [hd, mul_comm (w n) (f n), mul_assoc]

end Cert.Softmax

end
-- ==== Proof.Own.Trip.lean ====
/- What one trip of the loop over windows of segments computes, element by element. -/
module

public import proofs.«01_k».proof.Proof.Gen.KernelIdeal.Frame.Runs
public import proofs.«01_k».proof.Proof.Own.Softmax
public import Idealize.ShloMosaic.Lib.Pointwise
public import Idealize.ShloMosaic.Rules

@[expose] public section

noncomputable section

open Idealize.ShloMosaic Idealize.ShloMosaic.TcCoe Idealize.SL.Sem

namespace Cert.KernelIdeal.Hand

open Cert.KernelIdeal Cert.KernelIdeal.Gen Cert.Softmax

variable (v8 : Vec Ideal S16000x128 .f32) (v10 : IVec S1x16000 32) (v12 : Elt Ideal .i32) (v29 : BitVec 32)
  (v31 : Elt Ideal .i32) (c1 : BitVec 32) (k : Fin (k0_t1_loop v12 v31).trips) (v66 : Vec Ideal S16x128 .f32)
  (v73 v83 : Vec Ideal S16x1 .f32) (v93 : Vec Ideal S16x128 .f32)

/-- The constant named `neg` is minus infinity in the ideal reading. -/
theorem neg_eq : (Named.named κ "neg" 0xF149F2CA#32 : Ideal .f32) = (⊥ : EReal) :=
  IdealRules.named_const.ideal_named_scalar _ _ _ _ rfl

/-- The edges of the chunk that carry the id `w`. -/
def hits (w : BitVec 32) : Finset (Fin 16000) := Finset.univ.filter fun n => v10 (ix2 0 n) = w

/-- The first segment of the window of trip `k`, as the kernel computes it, and the `r`-th after it. -/
def seg (v29 c1 : BitVec 32) (k r : ℕ) : BitVec 32 := IntOp.addi (Scalar.muli (Scf.iv v29 c1 k) 16#32) (BitVec.ofNat 32 r)

/-- The score of an edge of the chunk against a row of queries. -/
def score (q : Fin 128 → EReal) (n : Fin 16000) : EReal := ∑ d : Fin 128, q d * v8 (ix2 n d)

/-- The maximum of a row after the chunk. -/
def newMax (q : Fin 128 → EReal) (w : BitVec 32) (mx : EReal) : EReal := max mx (top (hits v10 w) (score v8 q))

/-- The sum of exponentials of a row after the chunk. -/
def newSum (q : Fin 128 → EReal) (w : BitVec 32) (mx l : EReal) : EReal :=
  l * ex mx (newMax v8 v10 q w mx) + ∑ n ∈ hits v10 w, ex (score v8 q n) (newMax v8 v10 q w mx)

/-- An element of the weighted sum of a row after the chunk. -/
def newAcc (q : Fin 128 → EReal) (w : BitVec 32) (mx a : EReal) (d : Fin 128) : EReal :=
  a * ex mx (newMax v8 v10 q w mx) + ∑ n ∈ hits v10 w, ex (score v8 q n) (newMax v8 v10 q w mx) * v8 (ix2 n d)

/-- The score of an edge against a row of the window. -/
theorem pay13_apply (r : Fin 16) (n : Fin 16000) :
    k0_pay13 (F := Ideal) v8 v66 (ix2 r n) = score v8 (fun d => v66 (ix2 r d)) n := by
  unfold score
  pointwise [k0_pay13]

/-- Which edges of the chunk belong to a row of the window. -/
theorem pay12_apply (r : Fin 16) (n : Fin 16000) :
    k0_pay12 (F := Ideal) v10 v12 v29 v31 c1 k (ix2 r n) = IntOp.cmpi .eq (v10 (ix2 0 n)) (seg v29 c1 k r) := by
  unfold seg
  pointwise [k0_pay12]

/-- A choice by an equality of words. -/
theorem select_eq {α : Type} (a b : BitVec 32) (x y : α) :
    Scalar.select (IntOp.cmpi .eq a b) x y = if a = b then x else y := by
  show (if BitVec.ofBool (a == b) = 1#1 then x else y) = _
  by_cases h : a = b
  · subst h; simp
  · rw [if_neg h, if_neg]
    rw [beq_eq_false_iff_ne.2 h]
    decide

/-- The maximum over a chunk of the scores that count is the maximum over the edges that count. -/
theorem fold_ite (p : Fin 16000 → Prop) [DecidablePred p] (s : Fin 16000 → EReal) :
    (Finset.univ : Finset (Fin 16000)).fold max (⊥ : EReal) (fun n => if p n then s n else ⊥) = (Finset.univ.filter p).sup s := by
  show Finset.univ.sup _ = _
  rw [Finset.sup_ite, Finset.sup_bot, sup_bot_eq]

/-- The new maximum of a row. -/
theorem pay14_apply (r : Fin 16) :
    k0_pay14 (F := Ideal) v8 v10 v12 v29 v31 c1 k v66 v73 (ix2 r 0)
      = newMax v8 v10 (fun d => v66 (ix2 r d)) (seg v29 c1 k r) (v73 (ix2 r 0)) := by
  unfold newMax
  have hs : ∀ n, select (k0_pay12 (F := Ideal) v10 v12 v29 v31 c1 k) (k0_pay13 (F := Ideal) v8 v66) (broadcast S16x16000 (Named.named κ "neg" 0xF149F2CA#32)) (ix2 r n)
      = if v10 (ix2 0 n) = seg v29 c1 k r then score v8 (fun d => v66 (ix2 r d)) n else (⊥ : EReal) := fun n => by
    show Scalar.select (k0_pay12 (F := Ideal) v10 v12 v29 v31 c1 k (ix2 r n)) (k0_pay13 (F := Ideal) v8 v66 (ix2 r n)) (Named.named κ "neg" 0xF149F2CA#32) = _
    rw [pay12_apply, pay13_apply, neg_eq, select_eq]
  have hr : multiReduction .maximumf [1] S16 (select (k0_pay12 (F := Ideal) v10 v12 v29 v31 c1 k) (k0_pay13 (F := Ideal) v8 v66)
        (broadcast S16x16000 (Named.named κ "neg" 0xF149F2CA#32))) 0xFF800000#32 reduces_S16x16000_S16 (.inl rfl) rfl (ix1 r)
      = top (hits v10 (seg v29 c1 k r)) (score v8 fun d => v66 (ix2 r d)) := by
    refine (Ideal.multiReduction_maximumf_single (a := (1 : Fin S16x16000.rank)) _ _ _ _ _ _).trans ?_
    rw [show (FloatOps.ofBits .f32 0xFF800000#32 : Ideal .f32) = (⊥ : EReal) by simp [Ideal.ofBits, Ideal.ieee]]
    have hf : (select (k0_pay12 (F := Ideal) v10 v12 v29 v31 c1 k) (k0_pay13 (F := Ideal) v8 v66)
        (broadcast S16x16000 (Named.named κ "neg" 0xF149F2CA#32))) ∘ Shape.Reduces.lift (a := (1 : Fin S16x16000.rank)) reduces_S16x16000_S16 (ix1 r)
        = fun n : Fin 16000 => if v10 (ix2 0 n) = seg v29 c1 k r then score v8 (fun d => v66 (ix2 r d)) n else (⊥ : EReal) := by
      funext n
      rw [← hs n]
      refine congrArg _ (funext fun a => Fin.ext ?_)
      fin_cases a <;> rfl
    rw [hf]
    exact fold_ite _ _
  rw [← hr]
  pointwise [k0_pay14]

/-- The factor that rescales a row. -/
theorem pay15_apply (r : Fin 16) :
    k0_pay15 (F := Ideal) v8 v10 v12 v29 v31 c1 k v66 v73 (ix2 r 0)
      = ex (v73 (ix2 r 0)) (newMax v8 v10 (fun d => v66 (ix2 r d)) (seg v29 c1 k r) (v73 (ix2 r 0))) := by
  pointwise [k0_pay15]
  rw [pay14_apply]
  rfl

/-- The weight of an edge in a row. -/
theorem pay16_apply (r : Fin 16) (n : Fin 16000) :
    k0_pay16 (F := Ideal) v8 v10 v12 v29 v31 c1 k v66 v73 (ix2 r n)
      = if v10 (ix2 0 n) = seg v29 c1 k r then ex (score v8 (fun d => v66 (ix2 r d)) n)
          (newMax v8 v10 (fun d => v66 (ix2 r d)) (seg v29 c1 k r) (v73 (ix2 r 0))) else 0 := by
  pointwise [k0_pay16]
  rw [pay12_apply, pay13_apply, pay14_apply, select_eq]
  rfl

/-- The new mass of a row. -/
theorem pay17_apply (r : Fin 16) :
    k0_pay17 (F := Ideal) v8 v10 v12 v29 v31 c1 k v66 v73 v83 (ix2 r 0)
      = newSum v8 v10 (fun d => v66 (ix2 r d)) (seg v29 c1 k r) (v73 (ix2 r 0)) (v83 (ix2 r 0)) := by
  unfold newSum hits
  pointwise [k0_pay17]
  simp only [pay15_apply, pay16_apply, Finset.sum_filter]

/-- The new sum of a row. -/
theorem pay18_apply (r : Fin 16) (d : Fin 128) :
    k0_pay18 (F := Ideal) v8 v10 v12 v29 v31 c1 k v66 v73 v93 (ix2 r d)
      = newAcc v8 v10 (fun d => v66 (ix2 r d)) (seg v29 c1 k r) (v73 (ix2 r 0)) (v93 (ix2 r d)) d := by
  unfold newAcc hits
  pointwise [k0_pay18]
  simp only [pay15_apply, pay16_apply, Finset.sum_filter, ite_mul, zero_mul]

end Cert.KernelIdeal.Hand

end
-- ==== Proof.Own.Loop.lean ====
/- What the loop over windows of segments leaves in the three running buffers: the rows of the windows it visits carry the
   chunk, the other rows are as they were. -/
module

public import proofs.«01_k».proof.Proof.Own.Trip
public import proofs.«01_k».proof.Proof.Own.Words
public import Idealize.ShloMosaic.Lib.WritesUnit

@[expose] public section

noncomputable section

open Idealize.ShloMosaic Idealize.ShloMosaic.TcCoe Idealize.SL.Sem

namespace Cert.KernelIdeal.Hand

open Cert.KernelIdeal Cert.KernelIdeal.Gen Cert.Softmax

/-- Where the rows of trip `k` begin in the two column buffers. -/
theorem off3_eq {v w : BitVec 32} (k : Fin (k0_t1_loop v w).trips) (h : v.toNat / 16 + k.val < 8) :
    k0_off3 v w k = ![(v.toNat / 16 + k.val) * 16, 0] := by
  show ![(Words.row (Words.win v) k.val).toNat, (0#32).toNat] = _
  rw [Words.row_spec h]
  rfl

/-- Where the rows of trip `k` begin in the wide buffers. -/
theorem off2_eq {v w : BitVec 32} (k : Fin (k0_t1_loop v w).trips) (h : v.toNat / 16 + k.val < 8) :
    k0_off2 v w k = ![(v.toNat / 16 + k.val) * 16, 0] := by
  show ![(Words.row (Words.win v) k.val).toNat, (0#32).toNat] = _
  rw [Words.row_spec h]
  rfl

/-- The id of the `r`-th segment of the window of trip `k`. -/
theorem seg_eq {v : BitVec 32} {k r : ℕ} (h : v.toNat / 16 + k < 8) (hr : r < 16) :
    seg (Words.win v) 1#32 k r = BitVec.ofNat 32 ((v.toNat / 16 + k) * 16 + r) := by
  have e := Words.row_spec h
  unfold Words.row at e
  apply BitVec.eq_of_toNat_eq
  unfold seg
  show (Scalar.muli (Scf.iv (Words.win v) 1#32 k) 16#32 + BitVec.ofNat 32 r).toNat = _
  rw [BitVec.toNat_add, e, BitVec.toNat_ofNat, BitVec.toNat_ofNat]
  omega

/-- The store of the new maxima stores them as they are. -/
theorem pay1_apply (v : FVec Ideal S16x1 .f32) (r : Fin 16) : k0_pay1 (F := Ideal) v (ix2 r 0) = v (ix2 r 0) := by
  pointwise [k0_pay1]

variable (𝒱 : Variants) (c : Dev nD) (bd : Option 𝒱.V) (i : grid0.Coords) (arg2 : Memref sig .tc .smem S20 .i32) (harg2 : arg2.IsWhole) (arg3 : Memref sig .tc .smem S20 .i32) (harg3 : arg3.IsWhole) (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .f32) (harg16 : arg16.IsWhole) (v8 : Vec Ideal S16000x128 .f32) (v10 : IVec S1x16000 32) (v12 : Elt Ideal .i32) (v31 : Elt Ideal .i32) (k0_hw1 : k0_chk1 v12 v31) (X_arg12 : BufTy.Contents (Elt Ideal) arg12.view.ty)

section trip

variable (k : Fin (k0_t1_loop v12 v31).trips) (hk : v12.toNat / 16 + k.val < 8)
  (f14 : BufTy.Contents (Elt Ideal) arg14.view.ty) (f15 : BufTy.Contents (Elt Ideal) arg15.view.ty)
  (f16 : BufTy.Contents (Elt Ideal) arg16.view.ty)

/-- A row of a column buffer that trip `k` loads. -/
theorem load3 (M : Memref sig .tc .vmem S128x1 .f32) (f : BufTy.Contents (Elt Ideal) M.view.ty) (r : Fin 16)
    (inb : ∀ a, k0_off3 v12 v31 k a + S16x1.size a ≤ S128x1.size a) :
    M.view.readAt (Elt Ideal) (Rect.unit (s := S128x1) (k0_off3 v12 v31 k) S16x1.size inb).toLoadRect f (ix2 r 0)
      = M.view.read (Elt Ideal) f (ix2 (⟨(v12.toNat / 16 + k.val) * 16 + r.val, by omega⟩ : Fin 128) 0) := by
  rw [View.readAt_apply]
  refine congrArg _ (funext fun a => Fin.ext ?_)
  fin_cases a
  · show k0_off3 v12 v31 k 0 + 1 * r.val = (v12.toNat / 16 + k.val) * 16 + r.val
    rw [off3_eq k hk]
    show (v12.toNat / 16 + k.val) * 16 + 1 * r.val = _
    omega
  · show k0_off3 v12 v31 k 1 + 1 * 0 = 0
    rw [off3_eq k hk]
    rfl

/-- A row of a wide buffer that trip `k` loads. -/
theorem load2 (M : Memref sig .tc .vmem S128x128 .f32) (f : BufTy.Contents (Elt Ideal) M.view.ty) (r : Fin 16) (d : Fin 128)
    (inb : ∀ a, k0_off2 v12 v31 k a + S16x128.size a ≤ S128x128.size a) :
    M.view.readAt (Elt Ideal) (Rect.unit (s := S128x128) (k0_off2 v12 v31 k) S16x128.size inb).toLoadRect f (ix2 r d)
      = M.view.read (Elt Ideal) f (ix2 (⟨(v12.toNat / 16 + k.val) * 16 + r.val, by omega⟩ : Fin 128) d) := by
  rw [View.readAt_apply]
  refine congrArg _ (funext fun a => Fin.ext ?_)
  fin_cases a
  · show k0_off2 v12 v31 k 0 + 1 * r.val = (v12.toNat / 16 + k.val) * 16 + r.val
    rw [off2_eq k hk]
    show (v12.toNat / 16 + k.val) * 16 + 1 * r.val = _
    omega
  · show k0_off2 v12 v31 k 1 + 1 * d.val = d.val
    rw [off2_eq k hk]
    show 0 + 1 * d.val = d.val
    omega

include hk

/-- The maxima after trip `k`. -/
theorem step14 (G : BufTy.Contents (Elt Ideal) arg14.view.ty) (L : List (View.Piece (Elt Ideal) S128x1 .f32)) (b : Fin 128) :
    arg14.view.read (Elt Ideal) (arg14.view.writes (Elt Ideal) G ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 k).1 f14 f15 f16 ++ L)) (ix2 b 0)
      = if b.val / 16 = v12.toNat / 16 + k.val then
          newMax v8 v10 (fun d => arg12.view.read (Elt Ideal) X_arg12 (ix2 b d)) (BitVec.ofNat 32 b.val) (arg14.view.read (Elt Ideal) f14 (ix2 b 0))
        else arg14.view.read (Elt Ideal) (arg14.view.writes (Elt Ideal) G L) (ix2 b 0) := by
  unfold trip_k0_t1
  dsimp only [List.singleton_append, List.cons_append, List.nil_append]
  split
  case isTrue h =>
    refine (View.read_writes_cons_rows_of_mem _ _ _ _ _ _ (ix2 (⟨b.val % 16, by omega⟩ : Fin 16) (0 : Fin 1)) (off3_eq k hk) ?_ ?_).trans ?_
    · show b.val = (v12.toNat / 16 + k.val) * 16 + b.val % 16
      omega
    · rfl
    · refine (pay1_apply _ _).trans ?_
      unfold trip_k0_t1.sl.r
      refine (pay14_apply ..).trans ?_
      rw [load3 _ _ _ hk, seg_eq hk (by omega)]
      simp only [load2 _ _ _ hk]
      simp only [show (v12.toNat / 16 + k.val) * 16 + b.val % 16 = b.val by omega, Fin.eta]
  case isFalse h =>
    refine View.read_writes_cons_rows_of_not_mem _ _ _ _ _ _ (W := 16) (off3_eq k hk) rfl ?_
    show b.val < (v12.toNat / 16 + k.val) * 16 ∨ (v12.toNat / 16 + k.val) * 16 + 16 ≤ b.val
    omega

/-- The sums of exponentials after trip `k`. -/
theorem step15 (G : BufTy.Contents (Elt Ideal) arg15.view.ty) (L : List (View.Piece (Elt Ideal) S128x1 .f32)) (b : Fin 128) :
    arg15.view.read (Elt Ideal) (arg15.view.writes (Elt Ideal) G ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 k).2.1 f14 f15 f16 ++ L)) (ix2 b 0)
      = if b.val / 16 = v12.toNat / 16 + k.val then
          newSum v8 v10 (fun d => arg12.view.read (Elt Ideal) X_arg12 (ix2 b d)) (BitVec.ofNat 32 b.val) (arg14.view.read (Elt Ideal) f14 (ix2 b 0))
            (arg15.view.read (Elt Ideal) f15 (ix2 b 0))
        else arg15.view.read (Elt Ideal) (arg15.view.writes (Elt Ideal) G L) (ix2 b 0) := by
  unfold trip_k0_t1
  dsimp only [List.singleton_append, List.cons_append, List.nil_append]
  split
  case isTrue h =>
    refine (View.read_writes_cons_rows_of_mem _ _ _ _ _ _ (ix2 (⟨b.val % 16, by omega⟩ : Fin 16) (0 : Fin 1)) (off3_eq k hk) ?_ ?_).trans ?_
    · show b.val = (v12.toNat / 16 + k.val) * 16 + b.val % 16
      omega
    · rfl
    · refine Eq.trans (pay17_apply ..) ?_
      rw [load3 _ _ _ hk, load3 _ _ _ hk, seg_eq hk (by omega)]
      simp only [load2 _ _ _ hk]
      simp only [show (v12.toNat / 16 + k.val) * 16 + b.val % 16 = b.val by omega, Fin.eta]
  case isFalse h =>
    refine View.read_writes_cons_rows_of_not_mem _ _ _ _ _ _ (W := 16) (off3_eq k hk) rfl ?_
    show b.val < (v12.toNat / 16 + k.val) * 16 ∨ (v12.toNat / 16 + k.val) * 16 + 16 ≤ b.val
    omega

/-- The weighted sums after trip `k`. -/
theorem step16 (G : BufTy.Contents (Elt Ideal) arg16.view.ty) (L : List (View.Piece (Elt Ideal) S128x128 .f32)) (b d : Fin 128) :
    arg16.view.read (Elt Ideal) (arg16.view.writes (Elt Ideal) G ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 k).2.2.1 f14 f15 f16 ++ L)) (ix2 b d)
      = if b.val / 16 = v12.toNat / 16 + k.val then
          newAcc v8 v10 (fun d => arg12.view.read (Elt Ideal) X_arg12 (ix2 b d)) (BitVec.ofNat 32 b.val) (arg14.view.read (Elt Ideal) f14 (ix2 b 0))
            (arg16.view.read (Elt Ideal) f16 (ix2 b d)) d
        else arg16.view.read (Elt Ideal) (arg16.view.writes (Elt Ideal) G L) (ix2 b d) := by
  unfold trip_k0_t1
  dsimp only [List.singleton_append, List.cons_append, List.nil_append]
  split
  case isTrue h =>
    refine (View.read_writes_cons_rows_of_mem _ _ _ _ _ _ (ix2 (⟨b.val % 16, by omega⟩ : Fin 16) d) (off2_eq k hk) ?_ ?_).trans ?_
    · show b.val = (v12.toNat / 16 + k.val) * 16 + b.val % 16
      omega
    · rfl
    · refine Eq.trans (pay18_apply ..) ?_
      rw [load3 _ _ _ hk, load2 _ _ _ hk, seg_eq hk (by omega)]
      simp only [load2 _ _ _ hk]
      simp only [show (v12.toNat / 16 + k.val) * 16 + b.val % 16 = b.val by omega, Fin.eta]
  case isFalse h =>
    refine View.read_writes_cons_rows_of_not_mem _ _ _ _ _ _ (W := 16) (off2_eq k hk) rfl ?_
    show b.val < (v12.toNat / 16 + k.val) * 16 ∨ (v12.toNat / 16 + k.val) * 16 + 16 ≤ b.val
    omega

end trip

section loop

variable (G14 : BufTy.Contents (Elt Ideal) arg14.view.ty) (G15 : BufTy.Contents (Elt Ideal) arg15.view.ty)
  (G16 : BufTy.Contents (Elt Ideal) arg16.view.ty)

/-- The three running buffers after the first `k` trips of the loop. -/
theorem loop_read (h8 : v12.toNat / 16 + (k0_t1_loop v12 v31).trips ≤ 8) (k : ℕ) (hk : k ≤ (k0_t1_loop v12 v31).trips) (b : Fin 128) :
    (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 k).1) (ix2 b 0)
      = if v12.toNat / 16 ≤ b.val / 16 ∧ b.val / 16 < v12.toNat / 16 + k then
          newMax v8 v10 (fun d => arg12.view.read (Elt Ideal) X_arg12 (ix2 b d)) (BitVec.ofNat 32 b.val) (arg14.view.read (Elt Ideal) G14 (ix2 b 0))
        else arg14.view.read (Elt Ideal) G14 (ix2 b 0))
    ∧ (arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 k).2.1) (ix2 b 0)
      = if v12.toNat / 16 ≤ b.val / 16 ∧ b.val / 16 < v12.toNat / 16 + k then
          newSum v8 v10 (fun d => arg12.view.read (Elt Ideal) X_arg12 (ix2 b d)) (BitVec.ofNat 32 b.val) (arg14.view.read (Elt Ideal) G14 (ix2 b 0))
            (arg15.view.read (Elt Ideal) G15 (ix2 b 0))
        else arg15.view.read (Elt Ideal) G15 (ix2 b 0))
    ∧ ∀ d : Fin 128, arg16.view.read (Elt Ideal) (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 k).2.2) (ix2 b d)
      = if v12.toNat / 16 ≤ b.val / 16 ∧ b.val / 16 < v12.toNat / 16 + k then
          newAcc v8 v10 (fun d => arg12.view.read (Elt Ideal) X_arg12 (ix2 b d)) (BitVec.ofNat 32 b.val) (arg14.view.read (Elt Ideal) G14 (ix2 b 0))
            (arg16.view.read (Elt Ideal) G16 (ix2 b d)) d
        else arg16.view.read (Elt Ideal) G16 (ix2 b d) := by
  induction k with
  | zero =>
    have hf : ¬ (v12.toNat / 16 ≤ b.val / 16 ∧ b.val / 16 < v12.toNat / 16 + 0) := by omega
    simp only [if_neg hf]
    exact ⟨rfl, rfl, fun _ => rfl⟩
  | succ k ih =>
    obtain ⟨i1, i2, i3⟩ := ih (by omega)
    have hkk : v12.toNat / 16 + (⟨k, by omega⟩ : Fin (k0_t1_loop v12 v31).trips).val < 8 := by
      show v12.toNat / 16 + k < 8
      omega
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 ⟨k, by omega⟩
    rw [show k + 1 = (⟨k, by omega⟩ : Fin (k0_t1_loop v12 v31).trips).val + 1 from rfl, e]
    dsimp only [tripL_k0_t1]
    clear e ih
    by_cases hq : b.val / 16 = v12.toNat / 16 + (⟨k, by omega⟩ : Fin (k0_t1_loop v12 v31).trips).val
    · have hp : ¬ (v12.toNat / 16 ≤ b.val / 16 ∧ b.val / 16 < v12.toNat / 16 + k) := by dsimp only at hq; omega
      have hr : v12.toNat / 16 ≤ b.val / 16 ∧ b.val / 16 < v12.toNat / 16 + ((⟨k, by omega⟩ : Fin (k0_t1_loop v12 v31).trips).val + 1) := by
        dsimp only at hq ⊢; omega
      refine ⟨?_, ?_, fun d => ?_⟩
      · rw [step14 (hk := hkk), i1, if_pos hq, if_neg hp, if_pos hr]
      · rw [step15 (hk := hkk), i1, i2, if_pos hq, if_neg hp, if_neg hp, if_pos hr]
      · rw [step16 (hk := hkk), i1, i3 d, if_pos hq, if_neg hp, if_neg hp, if_pos hr]
    · have hr : (v12.toNat / 16 ≤ b.val / 16 ∧ b.val / 16 < v12.toNat / 16 + k)
          ↔ (v12.toNat / 16 ≤ b.val / 16 ∧ b.val / 16 < v12.toNat / 16 + ((⟨k, by omega⟩ : Fin (k0_t1_loop v12 v31).trips).val + 1)) := by
        dsimp only at hq ⊢; omega
      refine ⟨?_, ?_, fun d => ?_⟩
      · rw [step14 (hk := hkk), if_neg hq, i1]; exact if_congr hr rfl rfl
      · rw [step15 (hk := hkk), if_neg hq, i2]; exact if_congr hr rfl rfl
      · rw [step16 (hk := hkk), if_neg hq, i3 d]; exact if_congr hr rfl rfl

end loop

end Cert.KernelIdeal.Hand

end
-- ==== Proof.Own.Chunk.lean ====
/- What a chunk of edges does to the three running buffers, as plain functions; the words of the two tables at a point. -/
module

public import proofs.«01_k».proof.Proof.Own.Loop
public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Hand

open Cert.KernelIdeal Cert.KernelIdeal.Gen Cert.Softmax

/-- The first table's word at a point: the smallest id of the chunk. -/
abbrev word0 (c : Dev nD) (i : grid0.Coords) (xt0 : TbBuf0 (F := Ideal) c tbM0_0) : BitVec 32 := (tbM0_0.view.readAt (Elt Ideal) (Rect.unit (s := S20) (k0_off1 i) S1.size (k0_off1_inb i)).toLoadRect xt0 (Shape.Idx.first (numel1_S1.symm ▸ Nat.one_pos)))

/-- The second table's word at a point: the largest id of the chunk. -/
abbrev word1 (c : Dev nD) (i : grid0.Coords) (xt1 : TbBuf0 (F := Ideal) c tbM0_1) : BitVec 32 := (tbM0_1.view.readAt (Elt Ideal) (Rect.unit (s := S20) (k0_off1 i) S1.size (k0_off1_inb i)).toLoadRect xt1 (Shape.Idx.first (numel1_S1.symm ▸ Nat.one_pos)))

/-- Segment `b` lies in a window visited for a chunk whose ids run from `v` to `w`. -/
def visited (v w : BitVec 32) (b : Fin 128) : Prop := v.toNat / 16 ≤ b.val / 16 ∧ b.val / 16 ≤ w.toNat / 16

instance (v w : BitVec 32) (b : Fin 128) : Decidable (visited v w b) := inferInstanceAs (Decidable (_ ∧ _))

/-- The running maximum of segment `b` after a chunk. -/
def chunkMax (v w : BitVec 32) (v8 : Vec Ideal S16000x128 .f32) (v10 : Vec Ideal S1x16000 .i32) (q : Vec Ideal S128x128 .f32)
    (x4 : Vec Ideal S128x1 .f32) (x5 : Vec Ideal S128x1 .f32) (x6 : Vec Ideal S128x128 .f32) (b : Fin 128) : EReal :=
  if visited v w b then newMax v8 v10 (fun d => q (ix2 b d)) (BitVec.ofNat 32 b.val) (x4 (ix2 b 0)) else x4 (ix2 b 0)

/-- The running mass of segment `b` after a chunk. -/
def chunkSum (v w : BitVec 32) (v8 : Vec Ideal S16000x128 .f32) (v10 : Vec Ideal S1x16000 .i32) (q : Vec Ideal S128x128 .f32)
    (x4 : Vec Ideal S128x1 .f32) (x5 : Vec Ideal S128x1 .f32) (x6 : Vec Ideal S128x128 .f32) (b : Fin 128) : EReal :=
  if visited v w b then newSum v8 v10 (fun d => q (ix2 b d)) (BitVec.ofNat 32 b.val) (x4 (ix2 b 0)) (x5 (ix2 b 0)) else x5 (ix2 b 0)

/-- The running weighted sum of segment `b` after a chunk. -/
def chunkAcc (v w : BitVec 32) (v8 : Vec Ideal S16000x128 .f32) (v10 : Vec Ideal S1x16000 .i32) (q : Vec Ideal S128x128 .f32)
    (x4 : Vec Ideal S128x1 .f32) (x5 : Vec Ideal S128x1 .f32) (x6 : Vec Ideal S128x128 .f32) (b d : Fin 128) : EReal :=
  if visited v w b then newAcc v8 v10 (fun d => q (ix2 b d)) (BitVec.ofNat 32 b.val) (x4 (ix2 b 0)) (x6 (ix2 b d)) d else x6 (ix2 b d)

/-- Being visited, with the number of windows counted. -/
theorem visited_iff {v w : BitVec 32} (h : v.toNat ≤ w.toNat) (b : Fin 128) :
    (v.toNat / 16 ≤ b.val / 16 ∧ b.val / 16 < v.toNat / 16 + (w.toNat / 16 + 1 - v.toNat / 16)) ↔ visited v w b := by
  unfold visited
  have := Nat.div_le_div_right (c := 16) h
  omega

/-- One store of a whole buffer leaves what it stores. -/
theorem one_store {sg : RefSig} {κ : Kind} {Val : EltTy → Type} {sp : Space} {s : Shape} {e : EltTy} (v : View sg κ sp s e)
    (f : BufTy.Contents Val v.ty) {off : Fin s.rank → ℕ} (inb : ∀ a, off a + s.size a ≤ s.size a) (w : s.Idx → Val e) (h : ∀ a, off a = 0) :
    v.read Val (v.writes Val f [⟨Rect.unit off s.size inb, w⟩]) = w :=
  funext fun y => View.read_writes_cons_unit_of_mem v f inb w [] y y (off' := off) rfl (fun a => by rw [h a, Nat.zero_add])

section

variable (𝒱 : Variants) (c : Dev nD) (bd : Option 𝒱.V) (i : grid0.Coords) (arg2 : Memref sig .tc .smem S20 .i32) (harg2 : arg2.IsWhole) (arg3 : Memref sig .tc .smem S20 .i32) (harg3 : arg3.IsWhole) (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .f32) (harg13 : arg13.IsWhole) (arg14 : Memref sig .tc .vmem S128x1 .f32) (harg14 : arg14.IsWhole) (arg15 : Memref sig .tc .vmem S128x1 .f32) (harg15 : arg15.IsWhole) (arg16 : Memref sig .tc .vmem S128x128 .f32) (harg16 : arg16.IsWhole) (v8 : Vec Ideal S16000x128 .f32) (v10 : IVec S1x16000 32) (v12 : Elt Ideal .i32) (v31 : Elt Ideal .i32) (k0_hw1 : k0_chk1 v12 v31) (X_arg12 : BufTy.Contents (Elt Ideal) arg12.view.ty)

variable (G14 : BufTy.Contents (Elt Ideal) arg14.view.ty) (G15 : BufTy.Contents (Elt Ideal) arg15.view.ty)
  (G16 : BufTy.Contents (Elt Ideal) arg16.view.ty)

variable (v54 : BitVec 32) (Y12 : BufTy.Contents (Elt Ideal) arg12.view.ty) (Y14 : BufTy.Contents (Elt Ideal) arg14.view.ty)
  (Y15 : BufTy.Contents (Elt Ideal) arg15.view.ty) (Y16 : BufTy.Contents (Elt Ideal) arg16.view.ty)

/-- The three running buffers after both loops of a point. -/
theorem run_read (hw : v31.toNat < 128) (hvw : v12.toNat ≤ v31.toNat) (n1 n2 : ℕ)
    (x8 : Vec Ideal S16000x128 .f32) (x10 : Vec Ideal S1x16000 .i32) (e8 : v8 = x8) (e10 : v10 = x10)
    (h1 : n1 = v31.toNat / 16 + 1 - v12.toNat / 16) (h2 : n2 = 0)
    (q : Vec Ideal S128x128 .f32) (x14 x15 : Vec Ideal S128x1 .f32) (x16 : Vec Ideal S128x128 .f32)
    (hq : arg12.view.read (Elt Ideal) X_arg12 = q) (e14 : arg14.view.read (Elt Ideal) G14 = x14)
    (e15 : arg15.view.read (Elt Ideal) G15 = x15) (e16 : arg16.view.read (Elt Ideal) G16 = x16) (b : Fin 128) :
    (arg14.view.read (Elt Ideal) (arg14.view.writes (Elt Ideal) G14 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 n1).1)) (ix2 b 0) = chunkMax v12 v31 x8 x10 q x14 x15 x16 b)
    ∧ (arg15.view.read (Elt Ideal) (arg15.view.writes (Elt Ideal) G15 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 n1).2.1)) (ix2 b 0) = chunkSum v12 v31 x8 x10 q x14 x15 x16 b)
    ∧ (∀ d : Fin 128, arg16.view.read (Elt Ideal) (arg16.view.writes (Elt Ideal) G16 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).2.2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 G14 G15 G16 n1).2.2)) (ix2 b d) = chunkAcc v12 v31 x8 x10 q x14 x15 x16 b d) := by
  subst h2 e8 e10
  have ht : (k0_t1_loop v12 v31).trips = v31.toNat / 16 + 1 - v12.toNat / 16 := (Words.loop1_spec hw hvw).2
  have hd := Nat.div_le_div_right (c := 16) hvw
  have := loop_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 X_arg12 G14 G15 G16 (by rw [ht]; omega) n1 (by rw [ht, h1]) b
  subst hq e14 e15 e16
  unfold chunkMax chunkSum chunkAcc
  simp only [pb_k0_t2, List.nil_append]
  subst h1
  obtain ⟨a1, a2, a3⟩ := this
  exact ⟨a1.trans (if_congr (visited_iff hvw b) rfl rfl), a2.trans (if_congr (visited_iff hvw b) rfl rfl),
    fun d => (a3 d).trans (if_congr (visited_iff hvw b) rfl rfl)⟩

/-- The three running buffers after a point that first stored into them. -/
theorem run_read' (H14 H15 : List (View.Piece (Elt Ideal) S128x1 .f32)) (H16 : List (View.Piece (Elt Ideal) S128x128 .f32))
    (hw : v31.toNat < 128) (hvw : v12.toNat ≤ v31.toNat) (n1 n2 : ℕ)
    (x8 : Vec Ideal S16000x128 .f32) (x10 : Vec Ideal S1x16000 .i32) (e8 : v8 = x8) (e10 : v10 = x10)
    (h1 : n1 = v31.toNat / 16 + 1 - v12.toNat / 16) (h2 : n2 = 0)
    (q : Vec Ideal S128x128 .f32) (x14 x15 : Vec Ideal S128x1 .f32) (x16 : Vec Ideal S128x128 .f32)
    (hq : arg12.view.read (Elt Ideal) X_arg12 = q) (e14 : arg14.view.read (Elt Ideal) (arg14.view.writes (Elt Ideal) G14 H14) = x14)
    (e15 : arg15.view.read (Elt Ideal) (arg15.view.writes (Elt Ideal) G15 H15) = x15)
    (e16 : arg16.view.read (Elt Ideal) (arg16.view.writes (Elt Ideal) G16 H16) = x16) (b : Fin 128) :
    (arg14.view.read (Elt Ideal) (arg14.view.writes (Elt Ideal) G14 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 (arg14.view.writes (Elt Ideal) G14 H14) (arg15.view.writes (Elt Ideal) G15 H15) (arg16.view.writes (Elt Ideal) G16 H16) n1).1 ++ H14))) (ix2 b 0) = chunkMax v12 v31 x8 x10 q x14 x15 x16 b)
    ∧ (arg15.view.read (Elt Ideal) (arg15.view.writes (Elt Ideal) G15 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 (arg14.view.writes (Elt Ideal) G14 H14) (arg15.view.writes (Elt Ideal) G15 H15) (arg16.view.writes (Elt Ideal) G16 H16) n1).2.1 ++ H15))) (ix2 b 0) = chunkSum v12 v31 x8 x10 q x14 x15 x16 b)
    ∧ (∀ d : Fin 128, arg16.view.read (Elt Ideal) (arg16.view.writes (Elt Ideal) G16 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 v54 Y12 Y14 Y15 Y16 n2).2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 (Words.win v12) v31 k0_hw1 X_arg12 (arg14.view.writes (Elt Ideal) G14 H14) (arg15.view.writes (Elt Ideal) G15 H15) (arg16.view.writes (Elt Ideal) G16 H16) n1).2.2 ++ H16))) (ix2 b d) = chunkAcc v12 v31 x8 x10 q x14 x15 x16 b d) := by
  have h := run_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v8 v10 v12 v31 k0_hw1 X_arg12 _ _ _ v54 Y12 Y14 Y15 Y16 hw hvw n1 n2 x8 x10 e8 e10 h1 h2 q x14 x15 x16 hq e14 e15 e16 b
  simp only [View.writes_append] at h ⊢
  exact h

end

end Cert.KernelIdeal.Hand

end
-- ==== Proof.Own.Model.lean ====
/- The running maxima, masses and weighted sums over the edges seen so far, and one chunk's step of them. -/
module

public import proofs.«01_k».proof.Proof.Own.Chunk

@[expose] public section

noncomputable section

open Idealize.ShloMosaic Idealize.ShloMosaic.TcCoe Idealize.SL.Sem

namespace Cert.KernelIdeal.Hand

open Cert.KernelIdeal Cert.KernelIdeal.Gen Cert.Softmax

variable (id : S320000.Idx → BitVec 32) (feat : S320000x128.Idx → EReal) (q : S128x128.Idx → EReal)

/-- The edges before edge `N` that belong to segment `b`. -/
def rows (N : ℕ) (b : Fin 128) : Finset (Fin 320000) :=
  Finset.univ.filter fun n => n.val < N ∧ id (ix1 n) = BitVec.ofNat 32 b.val

/-- The score of an edge against the query of segment `b`. -/
def sc (b : Fin 128) (n : Fin 320000) : EReal := ∑ d : Fin 128, q (ix2 b d) * feat (ix2 n d)

/-- The maximal score of a segment, over the edges before edge `N`. -/
def topV (N : ℕ) (b : Fin 128) : EReal := top (rows id N b) (sc feat q b)

/-- The mass of a segment, over the edges before edge `N`. -/
def massV (N : ℕ) : S128x1.Idx → EReal := fun i => mass (rows id N (i 0)) (sc feat q (i 0))

/-- The weighted sum of a segment, over the edges before edge `N`. -/
def blendV (N : ℕ) : S128x128.Idx → EReal := fun i => blend (rows id N (i 0)) (sc feat q (i 0)) (fun n => feat (ix2 n (i 1)))

/-- Before the first edge a segment is empty. -/
theorem rows_zero (b : Fin 128) : rows id 0 b = ∅ := by
  unfold rows
  simp

/-- The edges of chunk `j` among all edges. -/
def place (j : ℕ) (hj : j < 20) : Fin 16000 ↪ Fin 320000 :=
  ⟨fun n => ⟨16000 * j + n.val, by omega⟩, fun a b h => by
    have := congrArg Fin.val h
    dsimp only at this
    exact Fin.ext (by omega)⟩

/-- The place of an edge of a chunk among all the edges. -/
theorem place_val (j : ℕ) (hj : j < 20) (n : Fin 16000) : (place j hj n).val = 16000 * j + n.val := rfl

section step

variable {id feat q} {j : ℕ} (hj : j < 20) {v8 : Vec Ideal S16000x128 .f32} {v10 : Vec Ideal S1x16000 .i32}
  (h8 : ∀ n d, v8 (ix2 n d) = feat (ix2 (place j hj n) d)) (h10 : ∀ n, v10 (ix2 0 n) = id (ix1 (place j hj n)))

include h10 in
/-- A chunk adds its own edges to a segment. -/
theorem rows_succ (b : Fin 128) :
    rows id (16000 * j) b ∪ (hits v10 (BitVec.ofNat 32 b.val)).map (place j hj) = rows id (16000 * (j + 1)) b := by
  ext n
  simp only [rows, hits, Finset.mem_union, Finset.mem_map, Finset.mem_filter, Finset.mem_univ, true_and, h10]
  constructor
  · rintro (⟨h, e⟩ | ⟨k, e, rfl⟩)
    · exact ⟨by omega, e⟩
    · exact ⟨by rw [place_val]; omega, e⟩
  · rintro ⟨h, e⟩
    by_cases hn : n.val < 16000 * j
    · exact .inl ⟨hn, e⟩
    · have : place j hj ⟨n.val - 16000 * j, by omega⟩ = n := Fin.ext (by rw [place_val]; dsimp only; omega)
      exact .inr ⟨⟨n.val - 16000 * j, by omega⟩, by rw [this]; exact e, this⟩

/-- The edges of a chunk come after those that were read before. -/
theorem rows_disjoint (w : BitVec 32) (b : Fin 128) : Disjoint (rows id (16000 * j) b) ((hits v10 w).map (place j hj)) := by
  rw [Finset.disjoint_left]
  intro n h1 h2
  obtain ⟨k, -, rfl⟩ := Finset.mem_map.mp h2
  have := (Finset.mem_filter.mp h1).2.1
  rw [place_val] at this
  omega

include h8 in
/-- The score of an edge is the score at its place in its chunk. -/
theorem sc_place (b : Fin 128) (n : Fin 16000) : sc feat q b (place j hj n) = score v8 (fun d => q (ix2 b d)) n := by
  unfold sc score
  simp only [h8]

include h8 h10 in
/-- The maximum of a segment after one more chunk. -/
theorem top_step (b : Fin 128) :
    newMax v8 v10 (fun d => q (ix2 b d)) (BitVec.ofNat 32 b.val) (topV id feat q (16000 * j) b) = topV id feat q (16000 * (j + 1)) b := by
  unfold newMax topV
  rw [← rows_succ hj h10 b, ← top_union]
  refine congrArg (max _) ?_
  unfold top
  rw [Finset.sup_map]
  exact Finset.sup_congr rfl fun n _ => (sc_place hj h8 b n).symm

include h8 h10 in
/-- The mass of a segment after one more chunk. -/
theorem mass_step (b : Fin 128) :
    newSum v8 v10 (fun d => q (ix2 b d)) (BitVec.ofNat 32 b.val) (topV id feat q (16000 * j) b) (massV id feat q (16000 * j) (ix2 b 0))
      = massV id feat q (16000 * (j + 1)) (ix2 b 0) := by
  unfold newSum
  rw [top_step hj h8 h10]
  show mass (rows id (16000 * j) b) (sc feat q b) * ex (top (rows id (16000 * j) b) (sc feat q b)) (top (rows id (16000 * (j + 1)) b) (sc feat q b))
    + ∑ n ∈ _, ex _ (top (rows id (16000 * (j + 1)) b) (sc feat q b)) = mass (rows id (16000 * (j + 1)) b) (sc feat q b)
  rw [← rows_succ hj h10 b, ← mass_union (rows_disjoint hj _ b) _, Finset.sum_map]
  simp only [sc_place hj h8]

include h8 h10 in
/-- The weighted sum of a segment after one more chunk. -/
theorem blend_step (b d : Fin 128) :
    newAcc v8 v10 (fun d => q (ix2 b d)) (BitVec.ofNat 32 b.val) (topV id feat q (16000 * j) b) (blendV id feat q (16000 * j) (ix2 b d)) d
      = blendV id feat q (16000 * (j + 1)) (ix2 b d) := by
  unfold newAcc
  rw [top_step hj h8 h10]
  show blend (rows id (16000 * j) b) (sc feat q b) (fun n => feat (ix2 n d)) * ex (top (rows id (16000 * j) b) (sc feat q b)) (top (rows id (16000 * (j + 1)) b) (sc feat q b))
    + ∑ n ∈ _, ex _ (top (rows id (16000 * (j + 1)) b) (sc feat q b)) * _ = blend (rows id (16000 * (j + 1)) b) (sc feat q b) (fun n => feat (ix2 n d))
  rw [← rows_succ hj h10 b, ← blend_union (rows_disjoint hj _ b) _ _, Finset.sum_map]
  simp only [sc_place hj h8, h8]

variable {v w : BitVec 32} (hv : ∀ n, v.toNat ≤ (v10 (ix2 0 n)).toNat) (hw : ∀ n, (v10 (ix2 0 n)).toNat ≤ w.toNat)

include hv hw in
/-- A window that a chunk does not visit holds none of its edges. -/
theorem hits_of_not_visited (b : Fin 128) (h : ¬ visited v w b) : hits v10 (BitVec.ofNat 32 b.val) = ∅ := by
  rw [Finset.eq_empty_iff_forall_notMem]
  intro n hn
  have e := (Finset.mem_filter.mp hn).2
  have h1 := hv n
  have h2 := hw n
  have hb : (BitVec.ofNat 32 b.val).toNat = b.val := by
    rw [BitVec.toNat_ofNat]
    exact Nat.mod_eq_of_lt (by omega)
  rw [e, hb] at h1 h2
  exact h ⟨Nat.div_le_div_right h1, Nat.div_le_div_right h2⟩

include h10 hv hw in
/-- A chunk that does not visit a segment's window leaves the segment as it was. -/
theorem rows_same (b : Fin 128) (h : ¬ visited v w b) : rows id (16000 * j) b = rows id (16000 * (j + 1)) b := by
  rw [← rows_succ hj h10 b, hits_of_not_visited hv hw b h, Finset.map_empty, Finset.union_empty]

variable {x14 x15 : Vec Ideal S128x1 .f32} {x16 : Vec Ideal S128x128 .f32}
  (h14 : ∀ b, x14 (ix2 b 0) = topV id feat q (16000 * j) b) (h15 : ∀ b, x15 (ix2 b 0) = massV id feat q (16000 * j) (ix2 b 0))
  (h16 : ∀ b d, x16 (ix2 b d) = blendV id feat q (16000 * j) (ix2 b d))

include h8 h10 hv hw h14 h15 h16 in
/-- A chunk carries the running values from the edges before it to the edges before the next one. -/
theorem chunk_step (b : Fin 128) :
    chunkMax v w v8 v10 q x14 x15 x16 b = topV id feat q (16000 * (j + 1)) b
    ∧ chunkSum v w v8 v10 q x14 x15 x16 b = massV id feat q (16000 * (j + 1)) (ix2 b 0)
    ∧ ∀ d, chunkAcc v w v8 v10 q x14 x15 x16 b d = blendV id feat q (16000 * (j + 1)) (ix2 b d) := by
  unfold chunkMax chunkSum chunkAcc
  rw [h14, h15]
  simp only [h16]
  by_cases h : visited v w b
  · simp only [if_pos h]
    exact ⟨top_step hj h8 h10 b, mass_step hj h8 h10 b, fun d => blend_step hj h8 h10 b d⟩
  · simp only [if_neg h]
    have e := rows_same hj h10 hv hw b h
    refine ⟨?_, ?_, fun d => ?_⟩
    · unfold topV
      rw [e]
    · show mass (rows id (16000 * j) b) _ = mass (rows id (16000 * (j + 1)) b) _
      rw [e]
    · show blend (rows id (16000 * j) b) _ _ = blend (rows id (16000 * (j + 1)) b) _ _
      rw [e]

end step

end Cert.KernelIdeal.Hand

end
-- ==== Proof.Own.Blocks.lean ====
/- The blocks a point of the grid reads: which rows of which arrays they are. -/
module

public import proofs.«01_k».proof.Proof.Own.Model
public import proofs.«01_k».proof.Proof.Own.IdealWords
public import Idealize.ShloMosaic.Lib.Pipeline.ValueKit
public import Idealize.ShloMosaic.Lib.Pointwise

@[expose] public section

noncomputable section

open Idealize.ShloMosaic Idealize.ShloMosaic.TcCoe Idealize.SL.Sem

namespace Cert.KernelIdeal.Hand

open Cert.KernelIdeal Cert.KernelIdeal.Gen Cert.Softmax

/-- The block of features that a point reads. -/
theorem index0 : ∀ t : Fin grid0.N, cc0_transform_0 (grid0.coords t) = ![t.val % 20, 0] := by decide +kernel
/-- The block of segment ids that a point reads. -/
theorem index1 : ∀ t : Fin grid0.N, cc0_transform_1 (grid0.coords t) = ![t.val % 20, 0, 0] := by decide +kernel
/-- The chunk of a point. -/
theorem coords1 : ∀ t : Fin grid0.N, (grid0.coords t 1).val = t.val % 20 := by decide +kernel
/-- Where a point reads its two prefetched words. -/
theorem off1 : ∀ t : Fin grid0.N, k0_off1 (grid0.coords t) = ![t.val % 20] := by decide +kernel

variable (m : (ℓ : Loc nD τ sig) → Buf (Elt Ideal) ℓ)

/-- The edges' features, as the program was launched with them. -/
abbrev feats : S320000x128.Idx → EReal := m (((0 : Dev nD) : Thread nD τ).loc main_arg0)

/-- The chunk of a point is below twenty. -/
theorem mod20 (t : Fin (cfgM m (ok m)).N) : t.val % 20 < 20 := Nat.mod_lt _ (by decide)

/-- The features of a point's block. -/
theorem blk0 (t : Fin (cfgM m (ok m)).N) (n : Fin 16000) (d : Fin 128) :
    (iblk m (ok m) 0 0 t : S16000x128.Idx → EReal) (ix2 n d) = feats m (ix2 (place (t.val % 20) (mod20 m t) n) d) := by
  have e : V m 0 main_arg0 = m (((0 : Dev nD) : Thread nD τ).loc main_arg0) := by
    unfold_abbrev_sides; after_results
  unfold iblk
  show (V m 0 main_arg0 : S320000x128.Idx → EReal) _ = _
  rw [e]
  refine congrArg (feats m) (funext fun a => Fin.ext ?_)
  have h := index0 t
  fin_cases a
  · show cc0_transform_0 (grid0.coords t) 0 * 16000 + 1 * n.val = 16000 * (t.val % 20) + n.val
    rw [h]
    show (t.val % 20) * 16000 + 1 * n.val = _
    omega
  · show cc0_transform_0 (grid0.coords t) 1 * 128 + 1 * d.val = d.val
    rw [h]
    show 0 * 128 + 1 * d.val = _
    omega

/-- The segment ids of a point's block. -/
theorem blk1 (t : Fin (cfgM m (ok m)).N) (n : Fin 16000) :
    (k0_pay32 (F := Ideal) (iblk m (ok m) 0 1 t) : S1x16000.Idx → BitVec 32) (ix2 0 n) = ids m (ix1 (place (t.val % 20) (mod20 m t) n)) := by
  have e : (V m 0 main_v0 : S20x1x16000.Idx → BitVec 32) = shapeCast S20x1x16000 (ids m) shapeCasts_S320000_S20x1x16000 := by
    unfold_abbrev_sides; after_results; rfl
  have e2 : ∀ x : S1x1x16000.Idx → BitVec 32, k0_pay32 (F := Ideal) x (ix2 0 n) = x (ix3 0 0 n) := fun x => by pointwise [k0_pay32]
  refine (e2 _).trans ?_
  unfold iblk
  show (V m 0 main_v0 : S20x1x16000.Idx → BitVec 32) _ = _
  rw [e]
  have h := index1 t
  refine Eq.trans (b := (shapeCast S20x1x16000 (ids m) shapeCasts_S320000_S20x1x16000) (ix3 ⟨t.val % 20, mod20 m t⟩ 0 n)) ?_ ?_
  · refine congrArg _ (funext fun a => Fin.ext ?_)
    fin_cases a
    · show cc0_transform_1 (grid0.coords t) 0 * 1 + 1 * 0 = t.val % 20
      rw [h]
      show (t.val % 20) * 1 + 1 * 0 = _
      omega
    · show cc0_transform_1 (grid0.coords t) 1 * 1 + 1 * 0 = 0
      rw [h]
      rfl
    · show cc0_transform_1 (grid0.coords t) 2 * 16000 + 1 * n.val = n.val
      rw [h]
      show 0 * 16000 + 1 * n.val = _
      omega
  · pointwise
    exact congrArg (fun k => ids m (ix1 k)) (Fin.ext (by rw [place_val]; dsimp only; omega))

/-- Every point reads the whole input weights. -/
theorem blk2 (t : Fin (cfgM m (ok m)).N) : (iblk m (ok m) 0 2 t : S512x256.Idx → EReal) = m (((0 : Dev nD) : Thread nD τ).loc main_arg2) := by
  have e : V m 0 main_arg2 = m (((0 : Dev nD) : Thread nD τ).loc main_arg2) := by
    unfold_abbrev_sides; after_results
  unfold iblk
  refine funext fun (x : S512x256.Idx) => ?_
  show (V m 0 main_arg2 : S512x256.Idx → EReal) _ = _
  rw [e]
  refine congrArg _ (funext fun a => Fin.ext ?_)
  fin_cases a
  · show 0 * 512 + 1 * (x 0).val = (x 0).val
    omega
  · show 0 * 256 + 1 * (x 1).val = (x 1).val
    omega

/-- Every point reads the whole hidden weights. -/
theorem blk3 (t : Fin (cfgM m (ok m)).N) : (iblk m (ok m) 0 3 t : S512x128.Idx → EReal) = m (((0 : Dev nD) : Thread nD τ).loc main_arg3) := by
  have e : V m 0 main_arg3 = m (((0 : Dev nD) : Thread nD τ).loc main_arg3) := by
    unfold_abbrev_sides; after_results
  unfold iblk
  refine funext fun (x : S512x128.Idx) => ?_
  show (V m 0 main_arg3 : S512x128.Idx → EReal) _ = _
  rw [e]
  refine congrArg _ (funext fun a => Fin.ext ?_)
  fin_cases a
  · show 0 * 512 + 1 * (x 0).val = (x 0).val
    omega
  · show 0 * 128 + 1 * (x 1).val = (x 1).val
    omega

/-- The two biases, added, as the row the kernel reads. -/
def bias : S1x512.Idx → EReal :=
  shapeCast S1x512 (addf (F := Ideal) (φ := .f32) (m (((0 : Dev nD) : Thread nD τ).loc main_arg4)) (m (((0 : Dev nD) : Thread nD τ).loc main_arg5))) shapeCasts_S512_S1x512

/-- Every point reads the whole bias row. -/
theorem blk4 (t : Fin (cfgM m (ok m)).N) : (iblk m (ok m) 0 4 t : S1x512.Idx → EReal) = bias m := by
  have e : V m 0 main_v4 = bias m := by
    unfold bias; unfold_abbrev_sides; after_results; rfl
  unfold iblk
  refine funext fun (x : S1x512.Idx) => ?_
  show (V m 0 main_v4 : S1x512.Idx → EReal) _ = _
  rw [e]
  refine congrArg _ (funext fun a => Fin.ext ?_)
  fin_cases a
  · show 0 * 1 + 1 * (x 0).val = (x 0).val
    omega
  · show 0 * 512 + 1 * (x 1).val = (x 1).val
    omega

/-- The first prefetched word of a point is the segment id of its chunk's first edge. -/
theorem w0 (t : Fin (cfgM m (ok m)).N) : word0 0 (grid0.coords t) (tbl m 0) = ids m (edge (16000 * (t.val % 20)) (by have := mod20 m t; omega)) := by
  show (tbl m 0 : S20.Idx → BitVec 32) _ = _
  rw [tbl0]
  refine congrArg (ids m) (funext fun a => Fin.ext ?_)
  fin_cases a
  show 16000 * (k0_off1 (grid0.coords t) 0 + 1 * 0) = 16000 * (t.val % 20)
  rw [off1 t]
  rfl

/-- The second prefetched word of a point is the segment id of its chunk's last edge. -/
theorem w1 (t : Fin (cfgM m (ok m)).N) : word1 0 (grid0.coords t) (tbl m 1) = ids m (edge (16000 * (t.val % 20) + 15999) (by have := mod20 m t; omega)) := by
  show (tbl m 1 : S20.Idx → BitVec 32) _ = _
  rw [tbl1]
  refine congrArg (ids m) (funext fun a => Fin.ext ?_)
  fin_cases a
  show 16000 * (k0_off1 (grid0.coords t) 0 + 1 * 0) + 15999 = 16000 * (t.val % 20) + 15999
  rw [off1 t]
  rfl

end Cert.KernelIdeal.Hand

end
-- ==== Proof.Own.Fold.lean ====
/- What the scratch buffers hold after every point of the grid. -/
module

public import proofs.«01_k».proof.Proof.Own.Blocks

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

/-- What is carried from one iteration to the next. -/
structure State where
  h : S128x128.Idx → EReal
  c : S128x128.Idx → EReal
  qs : S128x256.Idx → EReal

/-- The input weights and the hidden weights. -/
abbrev wih : S512x256.Idx → EReal := m (((0 : Dev nD) : Thread nD τ).loc main_arg2)
/-- The hidden weights. -/
abbrev whh : S512x128.Idx → EReal := m (((0 : Dev nD) : Thread nD τ).loc main_arg3)

/-- The query an iteration computes. -/
def query (s : State) : S128x128.Idx → EReal := k0_pay10 (F := Ideal) s.qs (wih m) s.h (whh m) (bias m) s.c

/-- The query and the readout an iteration computes, side by side. -/
def readout (s : State) : S128x256.Idx → EReal :=
  k0_pay3 (F := Ideal) (blendV (ids m) (feats m) (query m s) 320000) (massV (ids m) (feats m) (query m s) 320000) (query m s)

/-- One iteration. -/
def next (s : State) : State where
  h := k0_pay9 (F := Ideal) s.qs (wih m) s.h (whh m) (bias m) s.c
  c := k0_pay8 (F := Ideal) s.qs (wih m) s.h (whh m) (bias m) s.c
  qs := k0_pay4 (F := Ideal) (blendV (ids m) (feats m) (query m s) 320000) (massV (ids m) (feats m) (query m s) 320000) (query m s)

/-- The state before iteration `n`. -/
def st : ℕ → State
  | 0 => ⟨k0_pay26 (F := Ideal), k0_pay27 (F := Ideal), k0_pay28 (F := Ideal)⟩
  | n + 1 => next m (st n)

/-- What a point leaves: the output block and the seven scratch buffers. -/
abbrev Out : Type := Vec Ideal S128x256 .f32 × Vec Ideal S128x128 .f32 × Vec Ideal S128x128 .f32 × Vec Ideal S128x128 .f32
  × Vec Ideal S128x256 .f32 × Vec Ideal S128x1 .f32 × Vec Ideal S128x1 .f32 × Vec Ideal S128x128 .f32

/-- What is true of it after chunk `j` of iteration `k`. -/
structure Inv (k j : ℕ) (o : Out) : Prop where
  h : o.2.1 = (st m (k + 1)).h
  c : o.2.2.1 = (st m (k + 1)).c
  q : o.2.2.2.1 = query m (st m (k))
  qs : j = 19 → o.2.2.2.2.1 = (st m (k + 1)).qs
  mx : ∀ b : Fin 128, o.2.2.2.2.2.1 (ix2 b 0) = topV (ids m) (feats m) (query m (st m (k))) (16000 * (j + 1)) b
  ms : ∀ b : Fin 128, o.2.2.2.2.2.2.1 (ix2 b 0) = massV (ids m) (feats m) (query m (st m (k))) (16000 * (j + 1)) (ix2 b 0)
  ac : ∀ b d : Fin 128, o.2.2.2.2.2.2.2 (ix2 b d) = blendV (ids m) (feats m) (query m (st m (k))) (16000 * (j + 1)) (ix2 b d)
  out : j = 19 → o.1 = readout m (st m (k))

/-- The running maximum starts at minus infinity. -/
theorem pay29_apply (b : Fin 128) : k0_pay29 (F := Ideal) (k0_pay11 (F := Ideal)) (ix2 b 0) = (⊥ : EReal) := by
  pointwise [k0_pay29, k0_pay11]
  exact neg_eq

/-- The running mass starts at zero. -/
theorem pay30_apply (b : Fin 128) : k0_pay30 (F := Ideal) (ix2 b 0) = (0 : EReal) := by
  pointwise [k0_pay30]

/-- The running sum starts at zero. -/
theorem pay31_apply (b d : Fin 128) : k0_pay31 (F := Ideal) (ix2 b d) = (0 : EReal) := by
  pointwise [k0_pay31]

variable {m}

/-- The maximum over no edges is where the running maximum starts. -/
theorem start_mx (q : S128x128.Idx → EReal) {j : ℕ} (hj : j = 0) (b : Fin 128) :
    k0_pay29 (F := Ideal) (k0_pay11 (F := Ideal)) (ix2 b 0) = topV (ids m) (feats m) q (16000 * j) b := by
  subst hj
  rw [pay29_apply]
  unfold topV
  rw [Nat.mul_zero, rows_zero]
  rfl

/-- The mass of no edges is where the running mass starts. -/
theorem start_ms (q : S128x128.Idx → EReal) {j : ℕ} (hj : j = 0) (b : Fin 128) :
    k0_pay30 (F := Ideal) (ix2 b 0) = massV (ids m) (feats m) q (16000 * j) (ix2 b 0) := by
  subst hj
  rw [pay30_apply]
  show _ = mass (rows (ids m) (16000 * 0) b) _
  rw [Nat.mul_zero, rows_zero]
  rfl

/-- The sum over no edges is where the running sum starts. -/
theorem start_ac (q : S128x128.Idx → EReal) {j : ℕ} (hj : j = 0) (b d : Fin 128) :
    k0_pay31 (F := Ideal) (ix2 b d) = blendV (ids m) (feats m) q (16000 * j) (ix2 b d) := by
  subst hj
  rw [pay31_apply]
  show _ = blend (rows (ids m) (16000 * 0) b) _ _
  rw [Nat.mul_zero, rows_zero]
  rfl

/-- An array of two axes is known by its elements. -/
theorem ext2 {a b : ℕ} {f g : (⟨2, ![a, b]⟩ : Shape).Idx → EReal} (h : ∀ (x : Fin a) (y : Fin b), f (ix2 x y) = g (ix2 x y)) : f = g := by
  funext i
  have e : i = ix2 (i 0) (i 1) := by
    funext k
    fin_cases k <;> rfl
  rw [e]
  exact h _ _

/-- Columns with equal entries are equal. -/
theorem ext_col {a : ℕ} {f g : (⟨2, ![a, 1]⟩ : Shape).Idx → EReal} (h : ∀ x : Fin a, f (ix2 x 0) = g (ix2 x 0)) : f = g :=
  ext2 fun x y => by
    obtain rfl : y = 0 := Subsingleton.elim _ _
    exact h x

/-- Equal sums, masses and queries give the same output. -/
theorem pay3_congr {a a' : S128x128.Idx → EReal} {l l' : S128x1.Idx → EReal} {q q' : S128x128.Idx → EReal} (ha : a = a') (hl : l = l') (hq : q = q') :
    k0_pay3 (F := Ideal) a l q = k0_pay3 (F := Ideal) a' l' q' := by
  rw [ha, hl, hq]

/-- Equal sums, masses and queries give the same query and readout. -/
theorem pay4_congr {a a' : S128x128.Idx → EReal} {l l' : S128x1.Idx → EReal} {q q' : S128x128.Idx → EReal} (ha : a = a') (hl : l = l') (hq : q = q') :
    k0_pay4 (F := Ideal) a l q = k0_pay4 (F := Ideal) a' l' q' := by
  rw [ha, hl, hq]

end Cert.KernelIdeal.Hand

end
-- ==== Proof.Own.RefLstm.lean ====
/- The recurrent cell of a round: the reference's spelling and the kernel's are the same arrays. -/
module

public import proofs.«01_k».proof.Proof.Own.RefDefs
public import proofs.«01_k».proof.Proof.Own.Fold
public import Idealize.ShloMosaic.Lib.Pointwise

@[expose] public section

noncomputable section

open Idealize.ShloMosaic Idealize.ShloMosaic.TcCoe

namespace Cert.Rounds

open Cert.ReferenceIdeal.Hand Cert.KernelIdeal.Hand Cert.KernelIdeal Cert.KernelIdeal.Gen

variable (x2 : S512x256.Idx → EReal) (x3 : S512x128.Idx → EReal) (x4 x5 : S512.Idx → EReal)
variable (qs : S128x256.Idx → EReal) (h c : S128x128.Idx → EReal)

/-- The two biases added, as a row. -/
abbrev biasRow : S1x512.Idx → EReal := shapeCast S1x512 (addf (F := Ideal) (φ := .f32) x4 x5) Gen.shapeCasts_S512_S1x512

/-- The gates. -/
theorem gates_eq : gates x2 x3 x4 x5 qs h = k0_pay5 (F := Ideal) qs x2 h x3 (biasRow x4 x5) := by
  refine ext2 fun r k => ?_
  unfold gates under
  pointwise [k0_pay5]
  exact add_assoc _ _ _

/-- The cell state. -/
theorem cell_eq : cell (gates x2 x3 x4 x5 qs h) c = k0_pay8 (F := Ideal) qs x2 h x3 (biasRow x4 x5) c := by
  refine ext2 fun r k => ?_
  rw [gates_eq]
  unfold k0_pay8 k0_pay6 cell sigm
  generalize k0_pay5 (F := Ideal) qs x2 h x3 (biasRow x4 x5) = g
  pointwise
  rfl

/-- The hidden state. -/
theorem hidden_eq : Cert.ReferenceIdeal.Hand.hidden (gates x2 x3 x4 x5 qs h) (cell (gates x2 x3 x4 x5 qs h) c) = k0_pay9 (F := Ideal) qs x2 h x3 (biasRow x4 x5) c := by
  refine ext2 fun r k => ?_
  rw [gates_eq]
  unfold k0_pay9 k0_pay7 k0_pay6 Cert.ReferenceIdeal.Hand.hidden cell sigm
  generalize k0_pay5 (F := Ideal) qs x2 h x3 (biasRow x4 x5) = g
  pointwise
  rfl

/-- The query is the hidden state. -/
theorem query_eq : k0_pay10 (F := Ideal) qs x2 h x3 (biasRow x4 x5) c = k0_pay9 (F := Ideal) qs x2 h x3 (biasRow x4 x5) c := rfl

/-- The zeros before the first round. -/
theorem zeros_h : zeros = k0_pay26 (F := Ideal) := by
  refine ext2 fun r k => ?_
  unfold zeros
  pointwise [k0_pay26]

/-- The cells start alike. -/
theorem zeros_c : zeros = k0_pay27 (F := Ideal) := by
  refine ext2 fun r k => ?_
  unfold zeros
  pointwise [k0_pay27]

/-- The query and readout start alike. -/
theorem zeros_qs : zeros2 = k0_pay28 (F := Ideal) := by
  refine ext2 fun r k => ?_
  unfold zeros2
  pointwise [k0_pay28]

/-- What is added to every sum of exponentials. -/
abbrev small : EReal := Ideal.ofBits .f32 0x322BCC77#32

/-- The number added to every mass is positive. -/
theorem small_pos : 0 < small := by
  unfold small
  simp [Ideal.ofBits, Ideal.ieee, -EReal.coe_mul]

/-- Query and readout side by side. -/
theorem beside_eq (q r acc : S128x128.Idx → EReal) (l : S128x1.Idx → EReal)
    (hr : ∀ b d : Fin 128, r (ix2 b d) = Ideal.div (acc (ix2 b d)) (l (ix2 b 0) + small)) :
    beside q r = k0_pay3 (F := Ideal) acc l q := by
  have e : r = divf (F := Ideal) (φ := .f32) acc (broadcastTo S128x128 (addf (F := Ideal) (φ := .f32) l (broadcast S128x1 small)) Gen.broadcasts_S128x1_S128x128) := by
    refine ext2 fun b d => ?_
    rw [hr]
    pointwise
  subst e
  rfl

/-- The same, as it is handed to the next iteration. -/
theorem beside_eq' (q r acc : S128x128.Idx → EReal) (l : S128x1.Idx → EReal)
    (hr : ∀ b d : Fin 128, r (ix2 b d) = Ideal.div (acc (ix2 b d)) (l (ix2 b 0) + small)) :
    beside q r = k0_pay4 (F := Ideal) acc l q := by
  rw [beside_eq q r acc l hr]
  refine ext2 fun b d => ?_
  pointwise [k0_pay4]

end Cert.Rounds

end
-- ==== Proof.Own.RefSeg.lean ====
/- The reference's per-segment operations, read at one edge or one segment. -/
module

public import proofs.«01_k».proof.Proof.Own.RefLstm
public import Idealize.ShloMosaic.Lib.Routing.Ops
public import Idealize.ShloMosaic.Lib.Routing.OpsPair
public import Idealize.ShloMosaic.PureOps.Reduce

@[expose] public section

noncomputable section

open Idealize.ShloMosaic Idealize.ShloMosaic.TcCoe

namespace Cert.Rounds

open Cert.ReferenceIdeal.Hand Cert.KernelIdeal.Hand Cert.ReferenceIdeal Cert.Softmax

variable (x0 : S320000x128.Idx → EReal) (x1 : S320000.Idx → BitVec 32)
variable (hx : ∀ n : Fin 320000, (x1 (ix1 n)).toNat < 128)

/-- The ids as a column. -/
theorem column_apply (n : Fin 320000) : column x1 (ix2 n 0) = x1 (ix1 n) := by
  unfold column
  pointwise

include hx in
/-- An id in range is not moved by the wrapping. -/
theorem wrapped_apply (n : Fin 320000) : wrapped x1 (ix2 n 0) = x1 (ix1 n) := by
  unfold wrapped
  rw [column_apply]
  pointwise
  exact Routing.wrap_of_lt _ _ (by have := hx n; omega)

/-- The segment of an edge. -/
def seg (n : Fin 320000) : Fin 128 := ⟨(x1 (ix1 n)).toNat, hx n⟩

/-- The id of an edge is the number of its segment. -/
theorem ofNat_seg (n : Fin 320000) : x1 (ix1 n) = BitVec.ofNat 32 (seg x1 hx n).val := by
  unfold seg
  simp

include hx in
/-- The wrapped id read as an integer. -/
theorem wrapped_toInt (n : Fin 320000) : (wrapped x1 (ix2 n 0)).toInt = ((seg x1 hx n).val : Int) := by
  rw [wrapped_apply x1 hx n, BitVec.toInt_eq_toNat_of_lt (by have := hx n; omega)]
  rfl

/-- A per-segment value at an edge is its segment's. -/
theorem spread_apply (v : S128.Idx → EReal) (n : Fin 320000) : spread x1 v (ix1 n) = v (ix1 (seg x1 hx n)) := by
  unfold spread
  have e : (ix1 n : S320000.Idx) = Shape.Idx.ofFin n := by
    funext a
    fin_cases a
    rfl
  have e2 : (StableHlo.Predicate.ixP n : S320000x1.Idx) = ix2 n 0 := by
    funext a
    fin_cases a <;> rfl
  have hN : 0 < 128 := by decide
  rw [e, StableHlo.Predicate.gather_take Cert.ReferenceIdeal.gather_S128_S320000x1_S320000_n_0_n_n_0_1_1 rfl rfl rfl rfl v (wrapped x1) n hN]
  refine congrArg v (funext fun a => ?_)
  fin_cases a
  refine Fin.ext ?_
  show min ((wrapped x1 (StableHlo.Predicate.ixP n)).toInt.toNat) (128 - 1) = (seg x1 hx n).val
  rw [e2, wrapped_toInt x1 hx n]
  have := (seg x1 hx n).isLt
  omega

/-- The row of a matrix at an edge is its segment's. -/
theorem rowof_apply (h : S128x128.Idx → EReal) (n : Fin 320000) (d : Fin 128) :
    Host.gather Cert.ReferenceIdeal.gather_S128x128_S320000x1_S320000x128_1_0_n_n_0_1_1128 h (wrapped x1) (ix2 n d) = h (ix2 (seg x1 hx n) d) := by
  exact Routing.gather_row _ rfl rfl rfl rfl rfl h (wrapped x1) n d (seg x1 hx n) ((wrapped_apply x1 hx n).trans (ofNat_seg x1 hx n)) (by decide)

/-- The score of an edge. -/
theorem scores_apply (h : S128x128.Idx → EReal) (n : Fin 320000) :
    scores x0 x1 h (ix1 n) = sc x0 h (seg x1 hx n) n := by
  unfold scores
  pointwise
  unfold sc
  refine Finset.sum_congr rfl fun d _ => ?_
  rw [rowof_apply x1 hx, mul_comm]

include hx in
/-- The id read as an integer. -/
theorem column_toInt (n : Fin 320000) : (column x1 (ix2 n 0)).toInt = ((seg x1 hx n).val : Int) := by
  rw [column_apply, BitVec.toInt_eq_toNat_of_lt (by have := hx n; omega)]
  rfl

/-- Where an edge's weight is added. -/
theorem start1 (n : Fin 320000) :
    Cert.ReferenceIdeal.scatter_S128_S320000x1_S320000_n_0_0_1.start (ix1 n) (column x1) 0 = (column x1 (ix2 n 0)).toInt := by
  unfold ScatterDims.start
  rw [dif_pos (by decide)]
  refine congrArg (fun i => (column x1 i).toInt) (funext fun a => ?_)
  fin_cases a
  · rfl
  · rfl

/-- Where an edge's row is added. -/
theorem start2 (n : Fin 320000) (d : Fin 128) :
    Cert.ReferenceIdeal.scatter_S128x128_S320000x1_S320000x128_1_0_0_1.start (ix2 n d) (column x1) 0 = (column x1 (ix2 n 0)).toInt := by
  unfold ScatterDims.start
  rw [dif_pos (by decide)]
  refine congrArg (fun i => (column x1 i).toInt) (funext fun a => ?_)
  fin_cases a
  · rfl
  · rfl

/-- Where an edge's update of a per-segment vector lands. -/
theorem lands1 (n : Fin 320000) (b : Fin 128) :
    Cert.ReferenceIdeal.scatter_S128_S320000x1_S320000_n_0_0_1.resultIdx? (ix1 n) (column x1) = some (ix1 b) ↔ seg x1 hx n = b := by
  refine (Routing.resultIdx?_ix1 Cert.ReferenceIdeal.scatter_S128_S320000x1_S320000_n_0_0_1 (ix1 n) (column x1) b).trans ?_
  have hw : Cert.ReferenceIdeal.scatter_S128_S320000x1_S320000_n_0_0_1.window (ix1 n) 0 = 0 := rfl
  rw [start1, hw, column_toInt x1 hx n, Fin.ext_iff]
  omega

/-- Where an element of an edge's update of a per-segment matrix lands. -/
theorem lands2 (n : Fin 320000) (d d' : Fin 128) (b : Fin 128) :
    Cert.ReferenceIdeal.scatter_S128x128_S320000x1_S320000x128_1_0_0_1.resultIdx? (ix2 n d) (column x1) = some (ix2 b d') ↔ seg x1 hx n = b ∧ d = d' := by
  refine (Routing.resultIdx?_ix2 Cert.ReferenceIdeal.scatter_S128x128_S320000x1_S320000x128_1_0_0_1 (ix2 n d) (column x1) b d').trans ?_
  have hw : Cert.ReferenceIdeal.scatter_S128x128_S320000x1_S320000x128_1_0_0_1.window (ix2 n d) 0 = 0 := rfl
  have hw1 : Cert.ReferenceIdeal.scatter_S128x128_S320000x1_S320000x128_1_0_0_1.window (ix2 n d) 1 = d.val := rfl
  have hs1 : Cert.ReferenceIdeal.scatter_S128x128_S320000x1_S320000x128_1_0_0_1.start (ix2 n d) (column x1) 1 = 0 := rfl
  rw [start2, hw, hw1, hs1, column_toInt x1 hx n, Fin.ext_iff, Fin.ext_iff]
  omega

/-- An edge belongs to the segment that its id names. -/
theorem mem_rows (n : Fin 320000) (b : Fin 128) : n ∈ rows x1 320000 b ↔ seg x1 hx n = b := by
  unfold rows
  rw [Finset.mem_filter, Fin.ext_iff]
  have hn := n.isLt
  have hb := b.isLt
  constructor
  · rintro ⟨-, -, h⟩
    show (x1 (ix1 n)).toNat = b.val
    rw [h, BitVec.toNat_ofNat]
    omega
  · intro h
    refine ⟨Finset.mem_univ _, hn, ?_⟩
    rw [ofNat_seg x1 hx n, h]

/-- The maximum of a segment's scores. -/
theorem maxima_apply (e : S320000.Idx → EReal) (b : Fin 128) :
    maxima x1 e (ix1 b) = top (rows x1 320000 b) (fun n => e (ix1 n)) := by
  unfold maxima member
  pointwise
  have hb : Ideal.ofBits .f32 0xFF800000#32 = ⊥ := by simp [Ideal.ofBits, Ideal.ieee]
  have hc : (id (constant (F := Ideal) S_ .f32 0xFF800000#32) : S_.Idx → EReal) ix0 = ⊥ := hb
  have hs : ∀ n : Fin 320000, Scalar.select (IntOp.cmpi CmpIPredicate.eq (x1 (ix1 n)) (BitVec.ofNat 32 b.val)) (e (ix1 n))
      ((id (constant (F := Ideal) S_ .f32 0xFF800000#32) : S_.Idx → EReal) ix0) = if x1 (ix1 n) = BitVec.ofNat 32 b.val then e (ix1 n) else ⊥ := by
    intro n
    rw [hc]
    by_cases h : x1 (ix1 n) = BitVec.ofNat 32 b.val
    · rw [if_pos h, h]
      simp [Scalar.select, IntOp.cmpi]
    · rw [if_neg h]
      have h' : (x1 (ix1 n) == BitVec.ofNat 32 b.val) = false := beq_false_of_ne h
      simp [Scalar.select, IntOp.cmpi, h']
  rw [hb]
  refine (Finset.fold_congr (fun n _ => hs n)).trans ?_
  unfold top
  show Finset.univ.sup (fun n : Fin 320000 => if x1 (ix1 n) = BitVec.ofNat 32 b.val then e (ix1 n) else (⊥ : EReal)) = _
  refine le_antisymm (Finset.sup_le fun n _ => ?_) (Finset.sup_le fun n hn => ?_)
  · split
    · next h =>
      refine Finset.le_sup (f := fun n : Fin 320000 => e (ix1 n)) ?_
      unfold rows
      rw [Finset.mem_filter]
      exact ⟨Finset.mem_univ _, n.isLt, h⟩
    · exact bot_le
  · unfold rows at hn
    rw [Finset.mem_filter] at hn
    refine le_trans (le_of_eq ?_) (Finset.le_sup (f := fun n : Fin 320000 => if x1 (ix1 n) = BitVec.ofNat 32 b.val then e (ix1 n) else (⊥ : EReal)) (Finset.mem_univ n))
    rw [if_pos hn.2.2]

include hx in
/-- A per-segment sum. -/
theorem totals_apply (w : S320000.Idx → EReal) (b : Fin 128) :
    totals x1 w (ix1 b) = ∑ n ∈ rows x1 320000 b, w (ix1 n) := by
  have z : zeros1 (ix1 b) = 0 := by
    unfold zeros1
    pointwise
  show zeros1 (ix1 b) + ∑ j ∈ Finset.univ.filter (fun j : S320000.Idx => Cert.ReferenceIdeal.scatter_S128_S320000x1_S320000_n_0_0_1.resultIdx? j (column x1) = some (ix1 b)), w j = _
  rw [z, zero_add]
  symm
  refine Finset.sum_bij (fun n _ => (ix1 n : S320000.Idx)) ?_ ?_ ?_ ?_
  · intro n hn
    rw [Finset.mem_filter]
    exact ⟨Finset.mem_univ _, (lands1 x1 hx n b).2 ((mem_rows x1 hx n b).1 hn)⟩
  · intro n _ k _ h
    exact congrFun h 0
  · intro j hj
    have ej : j = ix1 (j 0) := by
      funext a
      fin_cases a
      rfl
    rw [Finset.mem_filter, ej] at hj
    exact ⟨j 0, (mem_rows x1 hx _ b).2 ((lands1 x1 hx (j 0) b).1 hj.2), ej.symm⟩
  · intro n _
    rfl

include hx in
/-- The per-segment sum of weighted features. -/
theorem pooled_apply (a : S320000.Idx → EReal) (b d : Fin 128) :
    pooled x0 x1 a (ix2 b d) = ∑ n ∈ rows x1 320000 b, x0 (ix2 n d) * a (ix1 n) := by
  have z : zeros (ix2 b d) = 0 := by
    unfold zeros
    pointwise
  let u : S320000x128.Idx → EReal := mulf (F := Ideal) (φ := .f32) x0 (broadcastInDim S320000x128 ![0, 1] Cert.ReferenceIdeal.Facts₀.bcast_S320000x1_S320000x128_0_1 (broadcastInDim S320000x1 ![0] Cert.ReferenceIdeal.Facts₀.bcast_S320000_S320000x1_0 a))
  have hu : ∀ n : Fin 320000, u (ix2 n d) = x0 (ix2 n d) * a (ix1 n) := by
    intro n
    show mulf (F := Ideal) (φ := .f32) x0 _ (ix2 n d) = _
    pointwise
  show zeros (ix2 b d) + ∑ j ∈ Finset.univ.filter (fun j : S320000x128.Idx => Cert.ReferenceIdeal.scatter_S128x128_S320000x1_S320000x128_1_0_0_1.resultIdx? j (column x1) = some (ix2 b d)), u j = _
  rw [z, zero_add]
  symm
  refine Finset.sum_bij (fun n _ => (ix2 n d : S320000x128.Idx)) ?_ ?_ ?_ ?_
  · intro n hn
    rw [Finset.mem_filter]
    exact ⟨Finset.mem_univ _, (lands2 x1 hx n d d b).2 ⟨(mem_rows x1 hx n b).1 hn, rfl⟩⟩
  · intro n _ k _ h
    exact congrFun h 0
  · intro j hj
    have ej : j = ix2 (j 0) (j 1) := by
      funext a
      fin_cases a <;> rfl
    rw [Finset.mem_filter, ej] at hj
    have h := (lands2 x1 hx (j 0) (j 1) d b).1 hj.2
    refine ⟨j 0, (mem_rows x1 hx _ b).2 h.1, ?_⟩
    rw [← h.2]
    exact ej.symm
  · intro n _
    exact (hu n).symm

end Cert.Rounds

end
-- ==== Proof.Own.RefRound.lean ====
/- A round of the reference is an iteration of the kernel, and the results are the same array. -/
module

public import proofs.«01_k».proof.Proof.Own.RefSeg

@[expose] public section

noncomputable section

open Idealize.ShloMosaic Idealize.ShloMosaic.TcCoe

namespace Cert.Rounds

open Cert.ReferenceIdeal.Hand Cert.KernelIdeal.Hand Cert.ReferenceIdeal Cert.Softmax

variable (x0 : S320000x128.Idx → EReal) (x1 : S320000.Idx → BitVec 32)
variable (hx : ∀ n : Fin 320000, (x1 (ix1 n)).toNat < 128)

include hx in
/-- The score of an edge against its own segment's query. -/
theorem sc_seg (h : S128x128.Idx → EReal) (b : Fin 128) (n : Fin 320000) (hn : n ∈ rows x1 320000 b) :
    scores x0 x1 h (ix1 n) = sc x0 h b n := by
  rw [scores_apply x0 x1 hx, (mem_rows x1 hx n b).1 hn]

include hx in
/-- The maximum of a segment's scores. -/
theorem maxima_scores (h : S128x128.Idx → EReal) (b : Fin 128) : maxima x1 (scores x0 x1 h) (ix1 b) = top (rows x1 320000 b) (sc x0 h b) := by
  rw [maxima_apply]
  exact Finset.sup_congr rfl fun n hn => sc_seg x0 x1 hx h b n hn

include hx in
/-- The weight of an edge of a segment. -/
theorem weights_scores (h : S128x128.Idx → EReal) (b : Fin 128) (n : Fin 320000) (hn : n ∈ rows x1 320000 b) :
    weights x1 (scores x0 x1 h) (ix1 n) = ex (sc x0 h b n) (top (rows x1 320000 b) (sc x0 h b)) := by
  have e : spread x1 (maxima x1 (scores x0 x1 h)) (ix1 n) = top (rows x1 320000 b) (sc x0 h b) := by
    rw [spread_apply x1 hx, (mem_rows x1 hx n b).1 hn, maxima_scores x0 x1 hx]
  unfold weights ex
  rw [← e, ← sc_seg x0 x1 hx h b n hn]
  generalize spread x1 (maxima x1 (scores x0 x1 h)) = v
  generalize scores x0 x1 h = s
  pointwise

/-- The mass at a row is the mass of that segment. -/
theorem massV_at (h : S128x128.Idx → EReal) (b : Fin 128) :
    massV x1 x0 h 320000 (ix2 b 0) = mass (rows x1 320000 b) (sc x0 h b) := rfl

/-- The sum at a row is the weighted sum of that segment. -/
theorem blendV_at (h : S128x128.Idx → EReal) (b d : Fin 128) :
    blendV x1 x0 h 320000 (ix2 b d) = blend (rows x1 320000 b) (sc x0 h b) (fun n => x0 (ix2 n d)) := rfl

include hx in
/-- The sum of a segment's weights. -/
theorem totals_weights (h : S128x128.Idx → EReal) (b : Fin 128) :
    totals x1 (weights x1 (scores x0 x1 h)) (ix1 b) = massV x1 x0 h 320000 (ix2 b 0) := by
  rw [totals_apply x1 hx, massV_at, mass]
  exact Finset.sum_congr rfl fun n hn => weights_scores x0 x1 hx h b n hn

include hx in
/-- The share of an edge of a segment. -/
theorem shares_weights (h : S128x128.Idx → EReal) (b : Fin 128) (n : Fin 320000) (hn : n ∈ rows x1 320000 b) :
    shares x1 (weights x1 (scores x0 x1 h)) (ix1 n)
      = Ideal.div (ex (sc x0 h b n) (top (rows x1 320000 b) (sc x0 h b))) (massV x1 x0 h 320000 (ix2 b 0) + small) := by
  rw [← weights_scores x0 x1 hx h b n hn, ← totals_weights x0 x1 hx h b]
  have e : spread x1 (totals x1 (weights x1 (scores x0 x1 h))) (ix1 n) = totals x1 (weights x1 (scores x0 x1 h)) (ix1 b) := by
    rw [spread_apply x1 hx, (mem_rows x1 hx n b).1 hn]
  rw [← e]
  unfold shares
  generalize weights x1 (scores x0 x1 h) = w
  generalize spread x1 (totals x1 w) = v
  pointwise

include hx in
/-- The readout of a segment. -/
theorem pooled_shares (h : S128x128.Idx → EReal) (b d : Fin 128) :
    pooled x0 x1 (shares x1 (weights x1 (scores x0 x1 h))) (ix2 b d)
      = Ideal.div (blendV x1 x0 h 320000 (ix2 b d)) (massV x1 x0 h 320000 (ix2 b 0) + small) := by
  rw [pooled_apply x0 x1 hx]
  refine (Finset.sum_congr rfl fun n hn => congrArg (x0 (ix2 n d) * ·) (shares_weights x0 x1 hx h b n hn)).trans ?_
  have hp : 0 < massV x1 x0 h 320000 (ix2 b 0) + small :=
    lt_of_lt_of_le small_pos (le_add_of_nonneg_left (by rw [massV_at]; exact mass_nonneg _ _))
  rw [blendV_at, blend]
  exact sum_div (rows x1 320000 b) (fun n => ex (sc x0 h b n) (top (rows x1 320000 b) (sc x0 h b))) (fun n => x0 (ix2 n d)) hp

include hx in
/-- What a round hands on is what an iteration hands on. -/
theorem found_eq (h : S128x128.Idx → EReal) :
    found x0 x1 h = Cert.KernelIdeal.Gen.k0_pay4 (F := Ideal) (blendV x1 x0 h 320000) (massV x1 x0 h 320000) h :=
  beside_eq' h _ _ _ fun b d => pooled_shares x0 x1 hx h b d

include hx in
/-- The same, as the last iteration writes it. -/
theorem found_eq' (h : S128x128.Idx → EReal) :
    found x0 x1 h = Cert.KernelIdeal.Gen.k0_pay3 (F := Ideal) (blendV x1 x0 h 320000) (massV x1 x0 h 320000) h :=
  beside_eq h _ _ _ fun b d => pooled_shares x0 x1 hx h b d

end Cert.Rounds

end
-- ==== Proof.Own.CaseA.lean ====
/- What a point of the grid leaves in the scratch buffers. -/
module

public import proofs.«01_k».proof.Proof.Own.Chunk
public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Hand

open Cert.KernelIdeal Cert.KernelIdeal.Gen Cert.Softmax

/-- The hidden state that the first point leaves. -/
theorem A_0 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_A_0 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 = k0_pay9 (F := Ideal) (k0_pay28 (F := Ideal)) x2 (k0_pay26 (F := Ideal)) x3 x4 (k0_pay27 (F := Ideal)) := by
  frame_out

/-- The cell that the first point leaves. -/
theorem A_1 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_A_1 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 = k0_pay8 (F := Ideal) (k0_pay28 (F := Ideal)) x2 (k0_pay26 (F := Ideal)) x3 x4 (k0_pay27 (F := Ideal)) := by
  frame_out

/-- The query that the first point leaves. -/
theorem A_2 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_A_2 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 = k0_pay10 (F := Ideal) (k0_pay28 (F := Ideal)) x2 (k0_pay26 (F := Ideal)) x3 x4 (k0_pay27 (F := Ideal)) := by
  frame_out

/-- The query and readout that the first point leaves. -/
theorem A_3 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_A_3 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 = k0_pay28 (F := Ideal) := by
  frame_out

/-- The three running buffers after the point. -/
theorem A_run {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos))))
    (hw : (word1 c i xt1).toNat < 128) (hvw : (word0 c i xt0).toNat ≤ (word1 c i xt1).toNat) (b : Fin 128) :
    sout0_A_4 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 (ix2 b 0) = chunkMax (word0 c i xt0) (word1 c i xt1) x0 (k0_pay32 (F := Ideal) x1) (k0_pay10 (F := Ideal) (k0_pay28 (F := Ideal)) x2 (k0_pay26 (F := Ideal)) x3 x4 (k0_pay27 (F := Ideal))) (k0_pay29 (F := Ideal) (k0_pay11 (F := Ideal))) (k0_pay30 (F := Ideal)) (k0_pay31 (F := Ideal)) b
    ∧ sout0_A_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 (ix2 b 0) = chunkSum (word0 c i xt0) (word1 c i xt1) x0 (k0_pay32 (F := Ideal) x1) (k0_pay10 (F := Ideal) (k0_pay28 (F := Ideal)) x2 (k0_pay26 (F := Ideal)) x3 x4 (k0_pay27 (F := Ideal))) (k0_pay29 (F := Ideal) (k0_pay11 (F := Ideal))) (k0_pay30 (F := Ideal)) (k0_pay31 (F := Ideal)) b
    ∧ ∀ d : Fin 128, sout0_A_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 k0_hw1 (ix2 b d) = chunkAcc (word0 c i xt0) (word1 c i xt1) x0 (k0_pay32 (F := Ideal) x1) (k0_pay10 (F := Ideal) (k0_pay28 (F := Ideal)) x2 (k0_pay26 (F := Ideal)) x3 x4 (k0_pay27 (F := Ideal))) (k0_pay29 (F := Ideal) (k0_pay11 (F := Ideal))) (k0_pay30 (F := Ideal)) (k0_pay31 (F := Ideal)) b d := by
  unfold sout0_A_4 sout0_A_5 sout0_A_6
  unfold kernelRun0_A
  dsimp only
  exact run_read' _ _ _ _ _ _ _ _ _ _ _ _ _ _ _ _ _ _ _ _ _ _ _ _ _ _ _ _ _ _ _ _ _ _ _ _ _ _ _ _ _ _ _ _ _ _ _ _ _ _ _ hw hvw _ _ x0 (k0_pay32 (F := Ideal) x1)
    (by unfold kernelRun0_A.sl.r_2; rw [View.readAt_eq_ld, Memref.IsWhole.read_unread]; exact View.ld_unit_lit _ _ (by decide))
    (by unfold kernelRun0_A.sl.r_3; rw [View.readAt_eq_ld, Memref.IsWhole.read_unread]; exact congrArg _ (View.ld_unit_lit _ _ (by decide)))
    (Words.loop1_spec hw hvw).2 (Words.loop2_spec hw hvw).2 (k0_pay10 (F := Ideal) (k0_pay28 (F := Ideal)) x2 (k0_pay26 (F := Ideal)) x3 x4 (k0_pay27 (F := Ideal))) (k0_pay29 (F := Ideal) (k0_pay11 (F := Ideal))) (k0_pay30 (F := Ideal)) (k0_pay31 (F := Ideal))
    (by frame_out) (by frame_out) (by frame_out) (by frame_out) b

end Cert.KernelIdeal.Hand

end
-- ==== Proof.Own.FoldA.lean ====
/- One point of the grid. -/
module

public import proofs.«01_k».proof.Proof.Own.Fold
public import proofs.«01_k».proof.Proof.Own.CaseA

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

variable {m}

variable (hs : Sorted m) (hH : Hyps m (ok m)) (t : Fin (cfgM m (ok m)).N)

include hs in
/-- The invariant after a point that works on the first chunk of the first iteration. -/
theorem inv_A (h0 : t.val % 60 = 0) (h1 : t.val % 20 = 0) (h2 : ¬t.val % 20 = 19) : Inv m (t.val / 20) (t.val % 20) (outsAt0 m (ok m) hH 0 t.val t.isLt) := by
  have ht : t.val < 60 := t.isLt.trans_eq N_0
  have e1 : t.val / 20 = 0 := by omega
  rw [e1]
  have hw : (word1 0 (grid0.coords t) (tbl m 1)).toNat < 128 := by
    rw [w1]
    exact hs.lt _
  have hvw : (word0 0 (grid0.coords t) (tbl m 0)).toNat ≤ (word1 0 (grid0.coords t) (tbl m 1)).toNat := by
    rw [w0, w1]
    exact hs.le (by omega) _
  have hv : ∀ n, (word0 0 (grid0.coords t) (tbl m 0)).toNat ≤ ((k0_pay32 (F := Ideal) (iblk m (ok m) 0 1 t) : S1x16000.Idx → BitVec 32) (ix2 0 n)).toNat := by
    intro n
    rw [w0, blk1]
    exact hs.le (k := 16000 * (t.val % 20) + n.val) (by omega) _
  have hv' : ∀ n, ((k0_pay32 (F := Ideal) (iblk m (ok m) 0 1 t) : S1x16000.Idx → BitVec 32) (ix2 0 n)).toNat ≤ (word1 0 (grid0.coords t) (tbl m 1)).toNat := by
    intro n
    rw [w1, blk1]
    exact hs.le (n := 16000 * (t.val % 20) + n.val) (by omega) _
  have step := fun b => chunk_step (id := ids m) (feat := feats m) (q := query m (st m 0)) (mod20 m t) (blk0 m t) (blk1 m t) hv hv'
    (x14 := k0_pay29 (F := Ideal) (k0_pay11 (F := Ideal))) (x15 := k0_pay30 (F := Ideal)) (x16 := k0_pay31 (F := Ideal)) (start_mx _ h1) (start_ms _ h1) (start_ac _ h1) b
  have r := fun b => A_run (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) ((hcond0_0 t).mpr h0) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (Hyps.c0 hH 0 t) hw hvw b
  have eh : k0_pay9 (F := Ideal) (k0_pay28 (F := Ideal)) (iblk m (ok m) 0 2 t) (k0_pay26 (F := Ideal)) (iblk m (ok m) 0 3 t) (iblk m (ok m) 0 4 t) (k0_pay27 (F := Ideal)) = (st m (0 + 1)).h := by
    rw [blk2, blk3, blk4]
    rfl
  have ec : k0_pay8 (F := Ideal) (k0_pay28 (F := Ideal)) (iblk m (ok m) 0 2 t) (k0_pay26 (F := Ideal)) (iblk m (ok m) 0 3 t) (iblk m (ok m) 0 4 t) (k0_pay27 (F := Ideal)) = (st m (0 + 1)).c := by
    rw [blk2, blk3, blk4]
    rfl
  have eq : k0_pay10 (F := Ideal) (k0_pay28 (F := Ideal)) (iblk m (ok m) 0 2 t) (k0_pay26 (F := Ideal)) (iblk m (ok m) 0 3 t) (iblk m (ok m) 0 4 t) (k0_pay27 (F := Ideal)) = query m (st m 0) := by
    rw [blk2, blk3, blk4]
    rfl
  rw [eq] at r
  have g0 := (A_0 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) ((hcond0_0 t).mpr h0) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (Hyps.c0 hH 0 t)).trans eh
  have g1 := (A_1 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) ((hcond0_0 t).mpr h0) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (Hyps.c0 hH 0 t)).trans ec
  have g2 := (A_2 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) ((hcond0_0 t).mpr h0) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (Hyps.c0 hH 0 t)).trans eq
  have w0 : ∀ b : Fin 128, _ = topV (ids m) (feats m) (query m (st m 0)) (16000 * (t.val % 20 + 1)) b := fun b => (r b).1.trans (by exact (step b).1)
  have w1 : ∀ b : Fin 128, _ = massV (ids m) (feats m) (query m (st m 0)) (16000 * (t.val % 20 + 1)) (ix2 b 0) := fun b => (r b).2.1.trans (by exact (step b).2.1)
  have w2 : ∀ b d : Fin 128, _ = blendV (ids m) (feats m) (query m (st m 0)) (16000 * (t.val % 20 + 1)) (ix2 b d) := fun b d => ((r b).2.2 d).trans (by exact (step b).2.2 d)
  clear r step
  rw [outsAt0_A m (ok m) hH 0 t h0 h1 h2]
  constructor <;> dsimp only
  · exact g0
  · exact g1
  · exact g2
  · exact fun h => absurd h h2
  · exact w0
  · exact w1
  · exact w2
  · exact fun h => absurd h h2

end Cert.KernelIdeal.Hand

end
-- ==== Proof.Own.CaseB.lean ====
/- What a point of the grid leaves in the scratch buffers. -/
module

public import proofs.«01_k».proof.Proof.Own.Chunk
public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Hand

open Cert.KernelIdeal Cert.KernelIdeal.Gen Cert.Softmax

/-- The three running buffers after the point. -/
theorem B_run {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : ¬cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs2 : Vec Ideal S128x128 .f32) (xs3 : Vec Ideal S128x256 .f32) (xs4 : Vec Ideal S128x1 .f32) (xs5 : Vec Ideal S128x1 .f32) (xs6 : Vec Ideal S128x128 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos))))
    (hw : (word1 c i xt1).toNat < 128) (hvw : (word0 c i xt0).toNat ≤ (word1 c i xt1).toNat) (b : Fin 128) :
    sout0_B_4 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs3 xs4 xs5 xs6 k0_hw1 (ix2 b 0) = chunkMax (word0 c i xt0) (word1 c i xt1) x0 (k0_pay32 (F := Ideal) x1) xs2 xs4 xs5 xs6 b
    ∧ sout0_B_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs3 xs4 xs5 xs6 k0_hw1 (ix2 b 0) = chunkSum (word0 c i xt0) (word1 c i xt1) x0 (k0_pay32 (F := Ideal) x1) xs2 xs4 xs5 xs6 b
    ∧ ∀ d : Fin 128, sout0_B_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs3 xs4 xs5 xs6 k0_hw1 (ix2 b d) = chunkAcc (word0 c i xt0) (word1 c i xt1) x0 (k0_pay32 (F := Ideal) x1) xs2 xs4 xs5 xs6 b d := by
  unfold sout0_B_4 sout0_B_5 sout0_B_6
  unfold kernelRun0_B
  dsimp only
  refine run_read _ _ _ _ tbM0_0 htbM0_0 tbM0_1 htbM0_1 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) _ _ _ _ _ _ _ _ _ _ _ _ _ _ hw hvw _ _ x0 (k0_pay32 (F := Ideal) x1) ?_ ?_
    (Words.loop1_spec hw hvw).2 (Words.loop2_spec hw hvw).2 xs2 xs4 xs5 xs6
    (Memref.IsWhole.read_unread _ _) (Memref.IsWhole.read_unread _ _) (Memref.IsWhole.read_unread _ _) (Memref.IsWhole.read_unread _ _) b
  · unfold kernelRun0_B.sl.r_2; rw [View.readAt_eq_ld, Memref.IsWhole.read_unread]; exact View.ld_unit_lit _ _ (by decide)
  · unfold kernelRun0_B.sl.r_3; rw [View.readAt_eq_ld, Memref.IsWhole.read_unread]; exact congrArg _ (View.ld_unit_lit _ _ (by decide))

end Cert.KernelIdeal.Hand

end
-- ==== Proof.Own.FoldB.lean ====
/- One point of the grid. -/
module

public import proofs.«01_k».proof.Proof.Own.Fold
public import proofs.«01_k».proof.Proof.Own.CaseB

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

variable {m}

variable (hs : Sorted m) (hH : Hyps m (ok m)) (t : Fin (cfgM m (ok m)).N)

include hs in
/-- The invariant after a point that works on a middle chunk. -/
theorem inv_B (h0 : ¬t.val % 60 = 0) (h1 : ¬t.val % 20 = 0) (h2 : ¬t.val % 20 = 19) (hp : Inv m ((t.val - 1) / 20) ((t.val - 1) % 20) (outsAt0 m (ok m) hH 0 (t.val - 1) (Nat.lt_of_le_of_lt (Nat.sub_le _ _) t.isLt))) : Inv m (t.val / 20) (t.val % 20) (outsAt0 m (ok m) hH 0 t.val t.isLt) := by
  have ht : t.val < 60 := t.isLt.trans_eq N_0
  obtain ⟨ph, pc, pq, pqs, pmx, pms, pac, -⟩ := hp
  have e1 : (t.val - 1) / 20 = t.val / 20 := by omega
  have e2 : (t.val - 1) % 20 + 1 = t.val % 20 := by omega
  rw [e1] at ph pc pq pmx pms pac
  rw [e2] at pmx pms pac
  have hw : (word1 0 (grid0.coords t) (tbl m 1)).toNat < 128 := by
    rw [w1]
    exact hs.lt _
  have hvw : (word0 0 (grid0.coords t) (tbl m 0)).toNat ≤ (word1 0 (grid0.coords t) (tbl m 1)).toNat := by
    rw [w0, w1]
    exact hs.le (by omega) _
  have hv : ∀ n, (word0 0 (grid0.coords t) (tbl m 0)).toNat ≤ ((k0_pay32 (F := Ideal) (iblk m (ok m) 0 1 t) : S1x16000.Idx → BitVec 32) (ix2 0 n)).toNat := by
    intro n
    rw [w0, blk1]
    exact hs.le (k := 16000 * (t.val % 20) + n.val) (by omega) _
  have hv' : ∀ n, ((k0_pay32 (F := Ideal) (iblk m (ok m) 0 1 t) : S1x16000.Idx → BitVec 32) (ix2 0 n)).toNat ≤ (word1 0 (grid0.coords t) (tbl m 1)).toNat := by
    intro n
    rw [w1, blk1]
    exact hs.le (n := 16000 * (t.val % 20) + n.val) (by omega) _
  have step := fun b => chunk_step (id := ids m) (feat := feats m) (q := query m (st m (t.val / 20))) (mod20 m t) (blk0 m t) (blk1 m t) hv hv'
    (x14 := (outsAt0 m (ok m) hH 0 (t.val - 1) (Nat.lt_of_le_of_lt (Nat.sub_le _ _) t.isLt)).2.2.2.2.2.1) (x15 := (outsAt0 m (ok m) hH 0 (t.val - 1) (Nat.lt_of_le_of_lt (Nat.sub_le _ _) t.isLt)).2.2.2.2.2.2.1) (x16 := (outsAt0 m (ok m) hH 0 (t.val - 1) (Nat.lt_of_le_of_lt (Nat.sub_le _ _) t.isLt)).2.2.2.2.2.2.2) pmx pms pac b
  have r := fun b => B_run (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) (fun h => h1 ((hcond0_1 t).mp h)) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.1 (outsAt0 m (ok m) hH 0 (t.val - 1) (Nat.lt_of_le_of_lt (Nat.sub_le _ _) t.isLt)).2.2.2.2.1 (outsAt0 m (ok m) hH 0 (t.val - 1) (Nat.lt_of_le_of_lt (Nat.sub_le _ _) t.isLt)).2.2.2.2.2.1 (outsAt0 m (ok m) hH 0 (t.val - 1) (Nat.lt_of_le_of_lt (Nat.sub_le _ _) t.isLt)).2.2.2.2.2.2.1 (outsAt0 m (ok m) hH 0 (t.val - 1) (Nat.lt_of_le_of_lt (Nat.sub_le _ _) t.isLt)).2.2.2.2.2.2.2 (Hyps.c0 hH 0 t) hw hvw b
  have w0 : ∀ b : Fin 128, _ = topV (ids m) (feats m) (query m (st m (t.val / 20))) (16000 * (t.val % 20 + 1)) b := fun b => (r b).1.trans (by rw [pq]; exact (step b).1)
  have w1 : ∀ b : Fin 128, _ = massV (ids m) (feats m) (query m (st m (t.val / 20))) (16000 * (t.val % 20 + 1)) (ix2 b 0) := fun b => (r b).2.1.trans (by rw [pq]; exact (step b).2.1)
  have w2 : ∀ b d : Fin 128, _ = blendV (ids m) (feats m) (query m (st m (t.val / 20))) (16000 * (t.val % 20 + 1)) (ix2 b d) := fun b d => ((r b).2.2 d).trans (by rw [pq]; exact (step b).2.2 d)
  clear r step
  rw [outsAt0_B m (ok m) hH 0 t h0 h1 h2]
  constructor <;> dsimp only
  · exact ph
  · exact pc
  · exact pq
  · exact fun h => absurd h h2
  · exact w0
  · exact w1
  · exact w2
  · exact fun h => absurd h h2

end Cert.KernelIdeal.Hand

end
-- ==== Proof.Own.CaseC.lean ====
/- What a point of the grid leaves in the scratch buffers. -/
module

public import proofs.«01_k».proof.Proof.Own.Chunk
public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Hand

open Cert.KernelIdeal Cert.KernelIdeal.Gen Cert.Softmax

/-- The three running buffers after the point. -/
theorem C_run {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : ¬cond0_1 i) (hc2 : cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs2 : Vec Ideal S128x128 .f32) (xs4 : Vec Ideal S128x1 .f32) (xs5 : Vec Ideal S128x1 .f32) (xs6 : Vec Ideal S128x128 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos))))
    (hw : (word1 c i xt1).toNat < 128) (hvw : (word0 c i xt0).toNat ≤ (word1 c i xt1).toNat) (b : Fin 128) :
    sout0_C_4 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1 (ix2 b 0) = chunkMax (word0 c i xt0) (word1 c i xt1) x0 (k0_pay32 (F := Ideal) x1) xs2 xs4 xs5 xs6 b
    ∧ sout0_C_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1 (ix2 b 0) = chunkSum (word0 c i xt0) (word1 c i xt1) x0 (k0_pay32 (F := Ideal) x1) xs2 xs4 xs5 xs6 b
    ∧ ∀ d : Fin 128, sout0_C_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1 (ix2 b d) = chunkAcc (word0 c i xt0) (word1 c i xt1) x0 (k0_pay32 (F := Ideal) x1) xs2 xs4 xs5 xs6 b d := by
  unfold sout0_C_4 sout0_C_5 sout0_C_6
  unfold kernelRun0_C
  dsimp only
  refine run_read _ _ _ _ tbM0_0 htbM0_0 tbM0_1 htbM0_1 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) _ _ _ _ _ _ _ _ _ _ _ _ _ _ hw hvw _ _ x0 (k0_pay32 (F := Ideal) x1) ?_ ?_
    (Words.loop1_spec hw hvw).2 (Words.loop2_spec hw hvw).2 xs2 xs4 xs5 xs6
    (Memref.IsWhole.read_unread _ _) (Memref.IsWhole.read_unread _ _) (Memref.IsWhole.read_unread _ _) (Memref.IsWhole.read_unread _ _) b
  · unfold kernelRun0_C.sl.r_2; rw [View.readAt_eq_ld, Memref.IsWhole.read_unread]; exact View.ld_unit_lit _ _ (by decide)
  · unfold kernelRun0_C.sl.r_3; rw [View.readAt_eq_ld, Memref.IsWhole.read_unread]; exact congrArg _ (View.ld_unit_lit _ _ (by decide))

/-- The output block that a last chunk leaves. -/
theorem C_out {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : ¬cond0_1 i) (hc2 : cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs2 : Vec Ideal S128x128 .f32) (xs4 : Vec Ideal S128x1 .f32) (xs5 : Vec Ideal S128x1 .f32) (xs6 : Vec Ideal S128x128 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    out0_C_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1 = k0_pay3 (F := Ideal) (sout0_C_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1) (sout0_C_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1) xs2 := by
  unfold out0_C_5
  unfold kernelRun0_C
  dsimp only
  refine (one_store _ _ _ _ (by decide)).trans ?_
  unfold kernelRun0_C.sl.v58 kernelRun0_C.sl.v59
  rw [View.readAt_eq_ld, View.readAt_eq_ld, View.readAt_eq_ld]
  unfold sout0_C_5 sout0_C_6 kernelRun0_C
  dsimp only
  rw [View.ld_unit_lit _ _ (by decide), View.ld_unit_lit _ _ (by decide), View.ld_unit_lit _ _ (by decide), Idealize.ShloMosaic.read_unread_whole]

/-- The query and readout that a last chunk leaves. -/
theorem C_3 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : ¬cond0_1 i) (hc2 : cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs2 : Vec Ideal S128x128 .f32) (xs4 : Vec Ideal S128x1 .f32) (xs5 : Vec Ideal S128x1 .f32) (xs6 : Vec Ideal S128x128 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_C_3 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1 = k0_pay4 (F := Ideal) (sout0_C_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1) (sout0_C_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs2 xs4 xs5 xs6 k0_hw1) xs2 := by
  unfold sout0_C_3
  unfold kernelRun0_C
  dsimp only
  refine (one_store _ _ _ _ (by decide)).trans ?_
  unfold kernelRun0_C.sl.v58 kernelRun0_C.sl.v59
  rw [View.readAt_eq_ld, View.readAt_eq_ld, View.readAt_eq_ld]
  unfold sout0_C_5 sout0_C_6 kernelRun0_C
  dsimp only
  rw [View.ld_unit_lit _ _ (by decide), View.ld_unit_lit _ _ (by decide), View.ld_unit_lit _ _ (by decide), Idealize.ShloMosaic.read_unread_whole]

end Cert.KernelIdeal.Hand

end
-- ==== Proof.Own.FoldC.lean ====
/- One point of the grid. -/
module

public import proofs.«01_k».proof.Proof.Own.Fold
public import proofs.«01_k».proof.Proof.Own.CaseC

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

variable {m}

variable (hs : Sorted m) (hH : Hyps m (ok m)) (t : Fin (cfgM m (ok m)).N)

include hs in
/-- The invariant after a point that works on a last chunk. -/
theorem inv_C (h0 : ¬t.val % 60 = 0) (h1 : ¬t.val % 20 = 0) (h2 : t.val % 20 = 19) (hp : Inv m ((t.val - 1) / 20) ((t.val - 1) % 20) (outsAt0 m (ok m) hH 0 (t.val - 1) (Nat.lt_of_le_of_lt (Nat.sub_le _ _) t.isLt))) : Inv m (t.val / 20) (t.val % 20) (outsAt0 m (ok m) hH 0 t.val t.isLt) := by
  have ht : t.val < 60 := t.isLt.trans_eq N_0
  obtain ⟨ph, pc, pq, pqs, pmx, pms, pac, -⟩ := hp
  have e1 : (t.val - 1) / 20 = t.val / 20 := by omega
  have e2 : (t.val - 1) % 20 + 1 = t.val % 20 := by omega
  rw [e1] at ph pc pq pmx pms pac
  rw [e2] at pmx pms pac
  have hw : (word1 0 (grid0.coords t) (tbl m 1)).toNat < 128 := by
    rw [w1]
    exact hs.lt _
  have hvw : (word0 0 (grid0.coords t) (tbl m 0)).toNat ≤ (word1 0 (grid0.coords t) (tbl m 1)).toNat := by
    rw [w0, w1]
    exact hs.le (by omega) _
  have hv : ∀ n, (word0 0 (grid0.coords t) (tbl m 0)).toNat ≤ ((k0_pay32 (F := Ideal) (iblk m (ok m) 0 1 t) : S1x16000.Idx → BitVec 32) (ix2 0 n)).toNat := by
    intro n
    rw [w0, blk1]
    exact hs.le (k := 16000 * (t.val % 20) + n.val) (by omega) _
  have hv' : ∀ n, ((k0_pay32 (F := Ideal) (iblk m (ok m) 0 1 t) : S1x16000.Idx → BitVec 32) (ix2 0 n)).toNat ≤ (word1 0 (grid0.coords t) (tbl m 1)).toNat := by
    intro n
    rw [w1, blk1]
    exact hs.le (n := 16000 * (t.val % 20) + n.val) (by omega) _
  have step := fun b => chunk_step (id := ids m) (feat := feats m) (q := query m (st m (t.val / 20))) (mod20 m t) (blk0 m t) (blk1 m t) hv hv'
    (x14 := (outsAt0 m (ok m) hH 0 (t.val - 1) (Nat.lt_of_le_of_lt (Nat.sub_le _ _) t.isLt)).2.2.2.2.2.1) (x15 := (outsAt0 m (ok m) hH 0 (t.val - 1) (Nat.lt_of_le_of_lt (Nat.sub_le _ _) t.isLt)).2.2.2.2.2.2.1) (x16 := (outsAt0 m (ok m) hH 0 (t.val - 1) (Nat.lt_of_le_of_lt (Nat.sub_le _ _) t.isLt)).2.2.2.2.2.2.2) pmx pms pac b
  have r := fun b => C_run (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) (fun h => h1 ((hcond0_1 t).mp h)) ((hcond0_2 t).mpr h2) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.1 (outsAt0 m (ok m) hH 0 (t.val - 1) (Nat.lt_of_le_of_lt (Nat.sub_le _ _) t.isLt)).2.2.2.2.2.1 (outsAt0 m (ok m) hH 0 (t.val - 1) (Nat.lt_of_le_of_lt (Nat.sub_le _ _) t.isLt)).2.2.2.2.2.2.1 (outsAt0 m (ok m) hH 0 (t.val - 1) (Nat.lt_of_le_of_lt (Nat.sub_le _ _) t.isLt)).2.2.2.2.2.2.2 (Hyps.c0 hH 0 t) hw hvw b
  have w0 : ∀ b : Fin 128, _ = topV (ids m) (feats m) (query m (st m (t.val / 20))) (16000 * (t.val % 20 + 1)) b := fun b => (r b).1.trans (by rw [pq]; exact (step b).1)
  have w1 : ∀ b : Fin 128, _ = massV (ids m) (feats m) (query m (st m (t.val / 20))) (16000 * (t.val % 20 + 1)) (ix2 b 0) := fun b => (r b).2.1.trans (by rw [pq]; exact (step b).2.1)
  have w2 : ∀ b d : Fin 128, _ = blendV (ids m) (feats m) (query m (st m (t.val / 20))) (16000 * (t.val % 20 + 1)) (ix2 b d) := fun b d => ((r b).2.2 d).trans (by rw [pq]; exact (step b).2.2 d)
  clear r step
  have e3 : 16000 * (t.val % 20 + 1) = 320000 := by omega
  have f5 := ext_col w1
  have f6 := ext2 w2
  rw [e3] at f5 f6
  have g3 := C_3 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) (fun h => h1 ((hcond0_1 t).mp h)) ((hcond0_2 t).mpr h2) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.1 (outsAt0 m (ok m) hH 0 (t.val - 1) (Nat.lt_of_le_of_lt (Nat.sub_le _ _) t.isLt)).2.2.2.2.2.1 (outsAt0 m (ok m) hH 0 (t.val - 1) (Nat.lt_of_le_of_lt (Nat.sub_le _ _) t.isLt)).2.2.2.2.2.2.1 (outsAt0 m (ok m) hH 0 (t.val - 1) (Nat.lt_of_le_of_lt (Nat.sub_le _ _) t.isLt)).2.2.2.2.2.2.2 (Hyps.c0 hH 0 t)
  have g4 := C_out (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) (fun h => h1 ((hcond0_1 t).mp h)) ((hcond0_2 t).mpr h2) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.1 (outsAt0 m (ok m) hH 0 (t.val - 1) (Nat.lt_of_le_of_lt (Nat.sub_le _ _) t.isLt)).2.2.2.2.2.1 (outsAt0 m (ok m) hH 0 (t.val - 1) (Nat.lt_of_le_of_lt (Nat.sub_le _ _) t.isLt)).2.2.2.2.2.2.1 (outsAt0 m (ok m) hH 0 (t.val - 1) (Nat.lt_of_le_of_lt (Nat.sub_le _ _) t.isLt)).2.2.2.2.2.2.2 (Hyps.c0 hH 0 t)
  have k3 := g3.trans (pay4_congr f6 f5 pq)
  have k4 := g4.trans (pay3_congr f6 f5 pq)
  rw [outsAt0_C m (ok m) hH 0 t h0 h1 h2]
  constructor <;> dsimp only
  · exact ph
  · exact pc
  · exact pq
  · exact fun h => k3
  · exact w0
  · exact w1
  · exact w2
  · exact fun h => k4

end Cert.KernelIdeal.Hand

end
-- ==== Proof.Own.CaseD.lean ====
/- What a point of the grid leaves in the scratch buffers. -/
module

public import proofs.«01_k».proof.Proof.Own.Chunk
public import proofs.«01_k».proof.Proof.Gen.KernelIdeal.Frame
public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.KernelIdeal.Hand

open Cert.KernelIdeal Cert.KernelIdeal.Gen Cert.Softmax

/-- The hidden state that a first chunk leaves. -/
theorem D_0 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs3 : Vec Ideal S128x256 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_D_0 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 = k0_pay9 (F := Ideal) xs3 x2 xs0 x3 x4 xs1 := by
  frame_out
  simp only [Idealize.ShloMosaic.read_unread_whole]

/-- The cell that a first chunk leaves. -/
theorem D_1 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs3 : Vec Ideal S128x256 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_D_1 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 = k0_pay8 (F := Ideal) xs3 x2 xs0 x3 x4 xs1 := by
  frame_out
  simp only [Idealize.ShloMosaic.read_unread_whole]

/-- The query that a first chunk leaves. -/
theorem D_2 {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs3 : Vec Ideal S128x256 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos)))) :
    sout0_D_2 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 = k0_pay10 (F := Ideal) xs3 x2 xs0 x3 x4 xs1 := by
  frame_out
  simp only [Idealize.ShloMosaic.read_unread_whole]

/-- The three running buffers after the point. -/
theorem D_run {c : Dev nD} {i : grid0.Coords} (arg4 : Memref sig .tc .vmem S16000x128 .f32) (harg4 : arg4.IsWhole) (arg5 : Memref sig .tc .vmem S1x1x16000 .i32) (harg5 : arg5.IsWhole) (arg6 : Memref sig .tc .vmem S512x256 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x256 .f32) (harg9 : arg9.IsWhole) (hc0 : ¬cond0_0 i) (hc1 : cond0_1 i) (hc2 : ¬cond0_2 i)
    (x0 : Vec Ideal S16000x128 .f32) (x1 : Vec Ideal S1x1x16000 .i32) (x2 : Vec Ideal S512x256 .f32) (x3 : Vec Ideal S512x128 .f32) (x4 : Vec Ideal S1x512 .f32) (xt0 : TbBuf0 (F := Ideal) c tbM0_0) (xt1 : TbBuf0 (F := Ideal) c tbM0_1) (xs0 : Vec Ideal S128x128 .f32) (xs1 : Vec Ideal S128x128 .f32) (xs3 : Vec Ideal S128x256 .f32) (k0_hw1 : k0_chk1 (tbM0_0.view.readAt (Elt Ideal) (Rect.unit (s := S20) (k0_off1 i) S1.size (k0_off1_inb i)).toLoadRect xt0 (Shape.Idx.first (numel1_S1.symm ▸ Nat.one_pos))) (tbM0_1.view.readAt (Elt Ideal) (Rect.unit (s := S20) (k0_off1 i) S1.size (k0_off1_inb i)).toLoadRect xt1 (Shape.Idx.first (numel1_S1.symm ▸ Nat.one_pos))))
    (hw : (word1 c i xt1).toNat < 128) (hvw : (word0 c i xt0).toNat ≤ (word1 c i xt1).toNat) (b : Fin 128) :
    sout0_D_4 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 (ix2 b 0) = chunkMax (word0 c i xt0) (word1 c i xt1) x0 (k0_pay32 (F := Ideal) x1) (k0_pay10 (F := Ideal) xs3 x2 xs0 x3 x4 xs1) (k0_pay29 (F := Ideal) (k0_pay11 (F := Ideal))) (k0_pay30 (F := Ideal)) (k0_pay31 (F := Ideal)) b
    ∧ sout0_D_5 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 (ix2 b 0) = chunkSum (word0 c i xt0) (word1 c i xt1) x0 (k0_pay32 (F := Ideal) x1) (k0_pay10 (F := Ideal) xs3 x2 xs0 x3 x4 xs1) (k0_pay29 (F := Ideal) (k0_pay11 (F := Ideal))) (k0_pay30 (F := Ideal)) (k0_pay31 (F := Ideal)) b
    ∧ ∀ d : Fin 128, sout0_D_6 (F := Ideal) c i arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 x0 x1 x2 x3 x4 xt0 xt1 xs0 xs1 xs3 k0_hw1 (ix2 b d) = chunkAcc (word0 c i xt0) (word1 c i xt1) x0 (k0_pay32 (F := Ideal) x1) (k0_pay10 (F := Ideal) xs3 x2 xs0 x3 x4 xs1) (k0_pay29 (F := Ideal) (k0_pay11 (F := Ideal))) (k0_pay30 (F := Ideal)) (k0_pay31 (F := Ideal)) b d := by
  unfold sout0_D_4 sout0_D_5 sout0_D_6
  unfold kernelRun0_D
  dsimp only
  exact run_read' _ _ _ _ _ _ _ _ _ _ _ _ _ _ _ _ _ _ _ _ _ _ _ _ _ _ _ _ _ _ _ _ _ _ _ _ _ _ _ _ _ _ _ _ _ _ _ _ _ _ _ hw hvw _ _ x0 (k0_pay32 (F := Ideal) x1)
    (by unfold kernelRun0_D.sl.r_2; rw [View.readAt_eq_ld, Memref.IsWhole.read_unread]; exact View.ld_unit_lit _ _ (by decide))
    (by unfold kernelRun0_D.sl.r_3; rw [View.readAt_eq_ld, Memref.IsWhole.read_unread]; exact congrArg _ (View.ld_unit_lit _ _ (by decide)))
    (Words.loop1_spec hw hvw).2 (Words.loop2_spec hw hvw).2 (k0_pay10 (F := Ideal) xs3 x2 xs0 x3 x4 xs1) (k0_pay29 (F := Ideal) (k0_pay11 (F := Ideal))) (k0_pay30 (F := Ideal)) (k0_pay31 (F := Ideal))
    (by frame_out; simp only [Idealize.ShloMosaic.read_unread_whole]) (by frame_out) (by frame_out) (by frame_out) b

end Cert.KernelIdeal.Hand

end
-- ==== Proof.Own.FoldD.lean ====
/- One point of the grid. -/
module

public import proofs.«01_k».proof.Proof.Own.Fold
public import proofs.«01_k».proof.Proof.Own.CaseD

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

variable {m}

variable (hs : Sorted m) (hH : Hyps m (ok m)) (t : Fin (cfgM m (ok m)).N)

include hs in
/-- The invariant after a point that works on the first chunk of a later iteration. -/
theorem inv_D (h0 : ¬t.val % 60 = 0) (h1 : t.val % 20 = 0) (h2 : ¬t.val % 20 = 19) (hp : Inv m ((t.val - 1) / 20) ((t.val - 1) % 20) (outsAt0 m (ok m) hH 0 (t.val - 1) (Nat.lt_of_le_of_lt (Nat.sub_le _ _) t.isLt))) : Inv m (t.val / 20) (t.val % 20) (outsAt0 m (ok m) hH 0 t.val t.isLt) := by
  have ht : t.val < 60 := t.isLt.trans_eq N_0
  obtain ⟨ph, pc, pq, pqs, pmx, pms, pac, -⟩ := hp
  have e1 : (t.val - 1) / 20 + 1 = t.val / 20 := by omega
  have pqs := pqs (by omega)
  rw [e1] at ph pc pqs
  have hw : (word1 0 (grid0.coords t) (tbl m 1)).toNat < 128 := by
    rw [w1]
    exact hs.lt _
  have hvw : (word0 0 (grid0.coords t) (tbl m 0)).toNat ≤ (word1 0 (grid0.coords t) (tbl m 1)).toNat := by
    rw [w0, w1]
    exact hs.le (by omega) _
  have hv : ∀ n, (word0 0 (grid0.coords t) (tbl m 0)).toNat ≤ ((k0_pay32 (F := Ideal) (iblk m (ok m) 0 1 t) : S1x16000.Idx → BitVec 32) (ix2 0 n)).toNat := by
    intro n
    rw [w0, blk1]
    exact hs.le (k := 16000 * (t.val % 20) + n.val) (by omega) _
  have hv' : ∀ n, ((k0_pay32 (F := Ideal) (iblk m (ok m) 0 1 t) : S1x16000.Idx → BitVec 32) (ix2 0 n)).toNat ≤ (word1 0 (grid0.coords t) (tbl m 1)).toNat := by
    intro n
    rw [w1, blk1]
    exact hs.le (n := 16000 * (t.val % 20) + n.val) (by omega) _
  have step := fun b => chunk_step (id := ids m) (feat := feats m) (q := query m (st m (t.val / 20))) (mod20 m t) (blk0 m t) (blk1 m t) hv hv'
    (x14 := k0_pay29 (F := Ideal) (k0_pay11 (F := Ideal))) (x15 := k0_pay30 (F := Ideal)) (x16 := k0_pay31 (F := Ideal)) (start_mx _ h1) (start_ms _ h1) (start_ac _ h1) b
  have r := fun b => D_run (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.2.1 (Hyps.c0 hH 0 t) hw hvw b
  have eh : k0_pay9 (F := Ideal) (outsAt0 m (ok m) hH 0 (t.val - 1) (Nat.lt_of_le_of_lt (Nat.sub_le _ _) t.isLt)).2.2.2.2.1 (iblk m (ok m) 0 2 t) (outsAt0 m (ok m) hH 0 (t.val - 1) (Nat.lt_of_le_of_lt (Nat.sub_le _ _) t.isLt)).2.1 (iblk m (ok m) 0 3 t) (iblk m (ok m) 0 4 t) (outsAt0 m (ok m) hH 0 (t.val - 1) (Nat.lt_of_le_of_lt (Nat.sub_le _ _) t.isLt)).2.2.1 = (st m ((t.val / 20) + 1)).h := by
    rw [blk2, blk3, blk4, pqs, ph, pc]
    rfl
  have ec : k0_pay8 (F := Ideal) (outsAt0 m (ok m) hH 0 (t.val - 1) (Nat.lt_of_le_of_lt (Nat.sub_le _ _) t.isLt)).2.2.2.2.1 (iblk m (ok m) 0 2 t) (outsAt0 m (ok m) hH 0 (t.val - 1) (Nat.lt_of_le_of_lt (Nat.sub_le _ _) t.isLt)).2.1 (iblk m (ok m) 0 3 t) (iblk m (ok m) 0 4 t) (outsAt0 m (ok m) hH 0 (t.val - 1) (Nat.lt_of_le_of_lt (Nat.sub_le _ _) t.isLt)).2.2.1 = (st m ((t.val / 20) + 1)).c := by
    rw [blk2, blk3, blk4, pqs, ph, pc]
    rfl
  have eq : k0_pay10 (F := Ideal) (outsAt0 m (ok m) hH 0 (t.val - 1) (Nat.lt_of_le_of_lt (Nat.sub_le _ _) t.isLt)).2.2.2.2.1 (iblk m (ok m) 0 2 t) (outsAt0 m (ok m) hH 0 (t.val - 1) (Nat.lt_of_le_of_lt (Nat.sub_le _ _) t.isLt)).2.1 (iblk m (ok m) 0 3 t) (iblk m (ok m) 0 4 t) (outsAt0 m (ok m) hH 0 (t.val - 1) (Nat.lt_of_le_of_lt (Nat.sub_le _ _) t.isLt)).2.2.1 = query m (st m (t.val / 20)) := by
    rw [blk2, blk3, blk4, pqs, ph, pc]
    rfl
  rw [eq] at r
  have g0 := (D_0 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.2.1 (Hyps.c0 hH 0 t)).trans eh
  have g1 := (D_1 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.2.1 (Hyps.c0 hH 0 t)).trans ec
  have g2 := (D_2 (c := 0) (i := grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (fun h => h0 ((hcond0_0 t).mp h)) ((hcond0_1 t).mpr h1) (fun h => h2 ((hcond0_2 t).mp h)) (iblk m (ok m) 0 0 t) (iblk m (ok m) 0 1 t) (iblk m (ok m) 0 2 t) (iblk m (ok m) 0 3 t) (iblk m (ok m) 0 4 t) (tbl m 0) (tbl m 1) (outsAt0 m (ok m) hH 0 (t.val - 1) (Nat.lt_of_le_of_lt (Nat.sub_le _ _) t.isLt)).2.1 (outsAt0 m (ok m) hH 0 (t.val - 1) (Nat.lt_of_le_of_lt (Nat.sub_le _ _) t.isLt)).2.2.1 (outsAt0 m (ok m) hH 0 (t.val - 1) (Nat.lt_of_le_of_lt (Nat.sub_le _ _) t.isLt)).2.2.2.2.1 (Hyps.c0 hH 0 t)).trans eq
  have w0 : ∀ b : Fin 128, _ = topV (ids m) (feats m) (query m (st m (t.val / 20))) (16000 * (t.val % 20 + 1)) b := fun b => (r b).1.trans (by exact (step b).1)
  have w1 : ∀ b : Fin 128, _ = massV (ids m) (feats m) (query m (st m (t.val / 20))) (16000 * (t.val % 20 + 1)) (ix2 b 0) := fun b => (r b).2.1.trans (by exact (step b).2.1)
  have w2 : ∀ b d : Fin 128, _ = blendV (ids m) (feats m) (query m (st m (t.val / 20))) (16000 * (t.val % 20 + 1)) (ix2 b d) := fun b d => ((r b).2.2 d).trans (by exact (step b).2.2 d)
  clear r step
  rw [outsAt0_D m (ok m) hH 0 t h0 h1 h2]
  constructor <;> dsimp only
  · exact g0
  · exact g1
  · exact g2
  · exact fun h => absurd h h2
  · exact w0
  · exact w1
  · exact w2
  · exact fun h => absurd h h2

end Cert.KernelIdeal.Hand

end
-- ==== Proof.Own.Inv.lean ====
/- What the scratch buffers hold after every point of the grid. -/
module

public import proofs.«01_k».proof.Proof.Own.FoldA
public import proofs.«01_k».proof.Proof.Own.FoldB
public import proofs.«01_k».proof.Proof.Own.FoldC
public import proofs.«01_k».proof.Proof.Own.FoldD

@[expose] public section

noncomputable section

open Idealize.ShloMosaic Idealize.ShloMosaic.TcCoe Idealize.SL.Sem

namespace Cert.KernelIdeal.Hand

open Cert.KernelIdeal Cert.KernelIdeal.Gen Cert.Softmax

variable (m : (ℓ : Loc nD τ sig) → Buf (Elt Ideal) ℓ)

variable {m}

variable (hs : Sorted m) (hH : Hyps m (ok m))

include hs in
/-- The invariant holds after every point. -/
theorem inv (n : ℕ) (hn : n < (cfgM m (ok m)).N) : Inv m (n / 20) (n % 20) (outsAt0 m (ok m) hH 0 n hn) := by
  induction n with
  | zero => exact inv_A hs hH ⟨0, hn⟩ rfl rfl (show ¬0 % 20 = 19 by decide)
  | succ n ih =>
    have hp := ih (Nat.lt_of_succ_lt hn)
    have hN : n + 1 < 60 := hn.trans_eq N_0
    have h0 : ¬(n + 1) % 60 = 0 := by omega
    by_cases h1 : (n + 1) % 20 = 0
    · exact inv_D hs hH ⟨n + 1, hn⟩ h0 h1 (by dsimp only; omega) hp
    · by_cases h2 : (n + 1) % 20 = 19
      · exact inv_C hs hH ⟨n + 1, hn⟩ h0 h1 h2 hp
      · exact inv_B hs hH ⟨n + 1, hn⟩ h0 h1 h2 hp

end Cert.KernelIdeal.Hand

end
-- ==== Proof.Own.Output.lean ====
/- The array the kernel leaves as its result. -/
module

public import proofs.«01_k».proof.Proof.Own.Inv

@[expose] public section

noncomputable section

open Idealize.ShloMosaic Idealize.ShloMosaic.TcCoe Idealize.SL.Sem

namespace Cert.KernelIdeal.Hand

open Cert.KernelIdeal Cert.KernelIdeal.Gen Cert.Softmax

variable {m : (ℓ : Loc nD τ sig) → Buf (Elt Ideal) ℓ} (ρ : Dev nD → PrngReg)
variable (hs : Sorted m) (hH : Hyps m (ok m))

/-- The result: query and readout of the third iteration. -/
def val (m : (ℓ : Loc nD τ sig) → Buf (Elt Ideal) ℓ) : S128x256.Idx → EReal := readout m (st m 2)

include hs in
/-- What the last point writes back. -/
theorem flushed_eq (t : Fin (cfgM m (ok m)).N) (ht : t.val % 60 = 59) :
    (dats m (ok m) hH 0 0).flushed 5 t = (((cfgM m (ok m)).win 5).blk t).view.read (Elt Ideal) (val m) := by
  show ((cfgM m (ok m)).win 5).cut (grid0.coords t) ((dats m (ok m) hH 0 0).after 5 t) = _
  have hN : t.val < 60 := t.isLt.trans_eq N_0
  have e : t.val / 20 = 2 := by omega
  rw [after0_5, (inv hs hH t.val t.isLt).out (by omega), e]
  refine funext fun (x : S128x256.Idx) => ?_
  show readout m (st m 2) _ = readout m (st m 2) _
  refine congrArg _ (funext fun a => Fin.ext ?_)
  fin_cases a
  · show (x 0).val = 0 * 128 + 1 * (x 0).val
    omega
  · show (x 1).val = 0 * 256 + 1 * (x 1).val
    omega

/-- The last point. -/
abbrev tLast : Fin grid0.N := ⟨59, by rw [N_0]; decide⟩

/-- Its block is the whole result. -/
theorem cover (i : S128x256.Idx) :
    ∃ t : Fin (cfgM m (ok m)).N, ((cfgM m (ok m)).win 5).flush t = true ∧ i ∈ (((cfgM m (ok m)).win 5).blk t).view.set := by
  refine ⟨tLast, (flush0_5 _ tLast).mpr rfl, ?_⟩
  show i ∈ ((View.whole main_v5).slice (((cfgM m (ok m)).win 5).rect tLast)).set
  erw [View.set_slice_whole]
  refine (Pipeline.Window.mem_rect_iff ((cfgM m (ok m)).win 5) tLast i (by rfl)).mpr fun a => ?_
  have e : ((cfgM m (ok m)).win 5).index tLast a * ((cfgM m (ok m)).win 5).size a = 0
      ∧ ((cfgM m (ok m)).win 5).xsize (grid0.coords tLast) a = S128x256.size a := by
    fin_cases a <;> exact ⟨rfl, rfl⟩
  rw [e.1, e.2, Nat.zero_add]
  exact ⟨Nat.zero_le _, (i a).isLt⟩

include hs in
/-- The output array after the last point. -/
theorem final_o : (dats m (ok m) hH 0 0).arrAt 5 (cfgM m (ok m)).N = val m :=
  (dats m (ok m) hH 0 0).arrAt_eq_of_cover 5 (val m) (fun t ht => flushed_eq hs hH t ((flush0_5 _ t).mp ht)) cover

include hs in
/-- The run of the kernel on sorted segment ids: its result and its arguments. -/
theorem run : θ_run defs (onTc (τ := τ) (main (F := Ideal))) ⟨m, fun _ => 0, ρ⟩ fun r => ∀ c : Dev nD,
      r.2.mem ((c.tc : Thread nD τ).loc main_v5) = val m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hH := hyps hs
  refine (θ_run defs _ _).mono ?_ (θ_run_and (run_main m ρ (ok m) hH) (unchanged m ρ (ok m) hH))
  intro r hr c
  obtain rfl : c = 0 := Subsingleton.elim _ _
  exact ⟨((hr.1 0).1 5).trans (final_o hs hH), hr.2 0⟩

end Cert.KernelIdeal.Hand

end
-- ==== Proof.Own.RefValue.lean ====
/- The reference computes what the kernel computes. -/
module

public import proofs.«01_k».proof.Proof.Own.RefRound
public import proofs.«01_k».proof.Proof.Own.RefLstm
public import proofs.«01_k».proof.Proof.Own.Output
public import proofs.«01_k».proof.Proof.Gen.ReferenceIdeal.Run

@[expose] public section

noncomputable section

open Idealize.ShloMosaic Idealize.ShloMosaic.TcCoe Idealize.SL.Sem

namespace Cert.Rounds

open Cert.ReferenceIdeal.Hand Cert.KernelIdeal.Hand Cert.KernelIdeal

variable {m : (ℓ : Loc nD τ sig) → Buf (Elt Ideal) ℓ}
variable (hs : Sorted m)

/-- The sums of the bias vectors as the one row that both programs add. -/
theorem bias_row : biasRow (m (((0 : Dev nD) : Thread nD τ).loc main_arg4)) (m (((0 : Dev nD) : Thread nD τ).loc main_arg5)) = bias m := rfl

/-- The gates of the reference at the kernel's arguments. -/
abbrev gatesAt (m : (ℓ : Loc nD τ sig) → Buf (Elt Ideal) ℓ) (qs : S128x256.Idx → EReal) (h : S128x128.Idx → EReal) : S128x512.Idx → EReal :=
  gates (wih m) (whh m) (m (((0 : Dev nD) : Thread nD τ).loc main_arg4)) (m (((0 : Dev nD) : Thread nD τ).loc main_arg5)) qs h

/-- The cell of an iteration. -/
theorem cell_at (s : State) : cell (gatesAt m s.qs s.h) s.c = (next m s).c := by
  rw [gatesAt, cell_eq, bias_row]; rfl

/-- The hidden state of an iteration. -/
theorem hidden_at (s : State) : Cert.ReferenceIdeal.Hand.hidden (gatesAt m s.qs s.h) (cell (gatesAt m s.qs s.h) s.c) = (next m s).h := by
  rw [gatesAt, hidden_eq, bias_row]; rfl

/-- The query of an iteration is its hidden state. -/
theorem query_h (s : State) : query m s = (next m s).h := by
  rw [query, ← bias_row, query_eq, bias_row]; rfl

include hs in
/-- What a round hands on. -/
theorem found_at (s : State) : found (feats m) (ids m) (next m s).h = (next m s).qs := by
  rw [← query_h s]
  exact found_eq (feats m) (ids m) (fun n => hs.lt _) (query m s)

include hs in
/-- What the last round leaves. -/
theorem readout_at (s : State) : found (feats m) (ids m) (next m s).h = readout m s := by
  rw [← query_h s]
  exact found_eq' (feats m) (ids m) (fun n => hs.lt _) (query m s)

/-- The arguments of the reference are those of the kernel. -/
structure Same (m : (ℓ : Loc nD τ sig) → Buf (Elt Ideal) ℓ) (V : Valuation Cert.ReferenceIdeal.τ Cert.ReferenceIdeal.sig (Elt Ideal)) : Prop where
  a0 : V (Proc.devRef .tc Cert.ReferenceIdeal.main_arg0) = feats m
  a1 : V (Proc.devRef .tc Cert.ReferenceIdeal.main_arg1) = ids m
  a2 : V (Proc.devRef .tc Cert.ReferenceIdeal.main_arg2) = wih m
  a3 : V (Proc.devRef .tc Cert.ReferenceIdeal.main_arg3) = whh m
  a4 : V (Proc.devRef .tc Cert.ReferenceIdeal.main_arg4) = m (((0 : Dev nD) : Thread nD τ).loc main_arg4)
  a5 : V (Proc.devRef .tc Cert.ReferenceIdeal.main_arg5) = m (((0 : Dev nD) : Thread nD τ).loc main_arg5)

variable {V : Valuation Cert.ReferenceIdeal.τ Cert.ReferenceIdeal.sig (Elt Ideal)} (hV : Same m V)

open Cert.ReferenceIdeal.Value

include hV in
/-- The first round. -/
theorem gates1 : res_main_v19 V = gatesAt m (st m 0).qs (st m 0).h := by
  rw [g1, hV.a2, hV.a3, hV.a4, hV.a5, zeros_qs, zeros_h]; rfl

include hV in
/-- The cell after the first round. -/
theorem round1c : res_main_v45 V = (st m 1).c := by
  rw [c1, gates1 hV, zeros_c]; exact cell_at (st m 0)

include hV in
/-- The hidden state after the first round. -/
theorem round1h : res_main_v47 V = (st m 1).h := by
  rw [h1, c1, gates1 hV, zeros_c]; exact hidden_at (st m 0)

include hs hV in
/-- The second round. -/
theorem gates2 : res_main_v99 V = gatesAt m (st m 1).qs (st m 1).h := by
  rw [g2, Cert.ReferenceIdeal.Hand.w1, e1, round1h hV, hV.a0, hV.a1, hV.a2, hV.a3, hV.a4, hV.a5]
  exact congrArg (fun q => gatesAt m q (st m 1).h) (found_at hs (st m 0))

include hs hV in
/-- The cell after the second round. -/
theorem round2c : res_main_v125 V = (st m 2).c := by
  rw [c2, gates2 hs hV, round1c hV]; exact cell_at (st m 1)

include hs hV in
/-- The hidden state after the second round. -/
theorem round2h : res_main_v127 V = (st m 2).h := by
  rw [h2, c2, gates2 hs hV, round1c hV]; exact hidden_at (st m 1)

include hs hV in
/-- The third round. -/
theorem gates3 : res_main_v179 V = gatesAt m (st m 2).qs (st m 2).h := by
  rw [g3, w2, e2, round2h hs hV, hV.a0, hV.a1, hV.a2, hV.a3, hV.a4, hV.a5]
  exact congrArg (fun q => gatesAt m q (st m 2).h) (found_at hs (st m 1))

include hs hV in
/-- The hidden state after the third round. -/
theorem round3h : res_main_v207 V = (st m 3).h := by
  rw [h3, gates3 hs hV, round2c hs hV]; exact hidden_at (st m 2)

include hs hV in
/-- The result of the reference is the result of the kernel. -/
theorem result : beside (res_main_v207 V) (pooled (V (Proc.devRef .tc Cert.ReferenceIdeal.main_arg0)) (V (Proc.devRef .tc Cert.ReferenceIdeal.main_arg1))
    (shares (V (Proc.devRef .tc Cert.ReferenceIdeal.main_arg1)) (res_main_v228 V))) = val m := by
  rw [w3, e3, round3h hs hV, hV.a0, hV.a1]
  exact readout_at hs (st m 2)

end Cert.Rounds

end
-- ==== Proof.Own.Algebraic.lean ====
/- The kernel and the reference compute the same array. -/
module

public import proofs.«01_k».proof.Defs
public import proofs.«01_k».proof.Proof.Own.Frames
public import proofs.«01_k».proof.Proof.Own.RefValue

@[expose] public section

noncomputable section

open Idealize.ShloMosaic Idealize.ShloMosaic.TcCoe Idealize.SL.Sem Idealize.ShloMosaic.StableHlo

namespace Cert.Rounds

/-- The reference's final term is the kernel's result when the arguments agree. -/
theorem final {m : (ℓ : Loc Cert.KernelIdeal.nD Cert.KernelIdeal.τ Cert.KernelIdeal.sig) → Buf (Elt Ideal) ℓ} (hs : Cert.KernelIdeal.Hand.Sorted m)
    {V : Valuation Cert.ReferenceIdeal.τ Cert.ReferenceIdeal.sig (Elt Ideal)} (hV : Same m V) {X : Cert.KernelIdeal.S128x256.Idx → EReal}
    (hX : X = Cert.ReferenceIdeal.Hand.beside (Cert.ReferenceIdeal.Value.res_main_v207 V)
      (Cert.ReferenceIdeal.Hand.pooled (V (Proc.devRef .tc Cert.ReferenceIdeal.main_arg0)) (V (Proc.devRef .tc Cert.ReferenceIdeal.main_arg1))
        (Cert.ReferenceIdeal.Hand.shares (V (Proc.devRef .tc Cert.ReferenceIdeal.main_arg1)) (Cert.ReferenceIdeal.Value.res_main_v228 V)))) :
    X = Cert.KernelIdeal.Hand.val m := hX.trans (result hs hV)

/-- On sorted segment ids in range the idealized kernel and the reference leave the same result. -/
theorem algebraic : Cert.algebraic_KernelIdeal_ReferenceIdeal := by
  intro m g m' g' hp ha
  have hs : Cert.KernelIdeal.Hand.Sorted m := hp 0
  refine ⟨fun _ => Cert.KernelIdeal.Hand.val m, ?_, ?_⟩
  · exact Cert.KernelIdeal.Hand.run g hs
  · refine (θ_run Cert.ReferenceIdeal.defs _ _).mono ?_ (Cert.ReferenceIdeal.Value.run m' g')
    intro r h c
    have hc := h c
    refine ⟨?_, hc.2⟩
    refine hc.1.trans ?_
    have h0 := ha c
    have hV : Same m (launchContents m' c) := by
      obtain rfl : c = 0 := Subsingleton.elim _ _
      constructor
      · exact h0.1
      · exact h0.2.1
      · exact h0.2.2.1
      · exact h0.2.2.2.1
      · exact h0.2.2.2.2.1
      · exact h0.2.2.2.2.2
    exact final hs hV rfl

end Cert.Rounds

end
-- ==== Proof.lean ====
/- The claim, from the frames of the three programs the naming of the one constant, and the equality of the results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sorted_ids
public import proofs.«01_k».proof.Proof.Own.Frames
public import proofs.«01_k».proof.Proof.Own.Algebraic
public import Idealize.ShloMosaic.Adequacy
public import Idealize.ShloMosaic.Init

@[expose] public section

noncomputable section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts,
  Cert.Pre_sorted_ids.Gen.facts, Frames.kernel, Frames.kernelIdeal, Frames.reference,
  (fun m ρ _ => Frames.reference m ρ trivial), Frames.preserves, Cert.Rounds.algebraic⟩

end Cert.Proof

end
